-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S2x2048x1024 : Shape := ⟨3, ![2, 2048, 1024]⟩
abbrev S1024 : Shape := ⟨1, ![1024]⟩
abbrev S4384x1024 : Shape := ⟨2, ![4384, 1024]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S_ : Shape := ⟨0, ![]⟩
abbrev S2048x1024 : Shape := ⟨2, ![2048, 1024]⟩
abbrev S32x1024 : Shape := ⟨2, ![32, 1024]⟩
abbrev S2048x4 : Shape := ⟨2, ![2048, 4]⟩

class Facts : Prop where
  bcast_S_S1024 : S_.BroadcastsInDim S1024 (![] : Fin 0 → Fin S1024.rank)
  slices_S4384x1024_S2048x1024_2048_0 : S4384x1024.Slices ![2048, 0] S2048x1024
  bcast_S_S2048x1024 : S_.BroadcastsInDim S2048x1024 (![] : Fin 0 → Fin S2048x1024.rank)
  slices_S4384x1024_S32x1024_4352_0 : S4384x1024.Slices ![4352, 0] S32x1024
  bcast_S_S32x1024 : S_.BroadcastsInDim S32x1024 (![] : Fin 0 → Fin S32x1024.rank)
  slices_S2304x4_S2048x4_0_0 : S2304x4.Slices ![0, 0] S2048x4
  bcast_S_S2048x4 : S_.BroadcastsInDim S2048x4 (![] : Fin 0 → Fin S2048x4.rank)
  slices_S2304_S2048_0 : S2304.Slices ![0] S2048
  bcast_S_S2048 : S_.BroadcastsInDim S2048 (![] : Fin 0 → Fin S2048.rank)

variable [Facts]

def fn {F : FTy → Type} [FloatOps F] (main_arg0 : FVec F S2x2048x1024 .f32) (main_arg1 : FVec F S1024 .f32) (main_arg2 : FVec F S4384x1024 .f32) (main_arg3 : FVec F S2304x4 .f32) (main_arg4 : FVec F S2304 .f32) (main_arg5 : FVec F S32 .f32) (main_arg6 : FVec F S32 .f32) (main_arg7 : FVec F S32 .f32) (main_arg8 : FVec F S2048 .f32) (main_arg9 : FVec F S1024x2048 .f32) : IVec S1024 1 × IVec S2048x1024 1 × IVec S32x1024 1 × IVec S2048x4 1 × IVec S2048 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S2048x1024 .f32 := (extractStridedSlice S2048x1024 ![2048, 0] · slices_S4384x1024_S2048x1024_2048_0) main_arg2
  let main_v4 : FVec F S2048x1024 .f32 := Host.absf main_v3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S32x1024 .f32 := (extractStridedSlice S32x1024 ![4352, 0] · slices_S4384x1024_S32x1024_4352_0) main_arg2
  let main_v8 : FVec F S32x1024 .f32 := Host.absf main_v7
  let main_cst_1 : FVec F S_ .f32 := constant S_ .f32 0x7F800000#32
  let main_v9 : FVec F S32x1024 .f32 := broadcastInDim S32x1024 ![] bcast_S_S32x1024 main_cst_1
  let main_v10 : IVec S32x1024 1 := cmpf .olt main_v8 main_v9
  let main_v11 : FVec F S2048x4 .f32 := (extractStridedSlice S2048x4 ![0, 0] · slices_S2304x4_S2048x4_0_0) main_arg3
  let main_v12 : FVec F S2048x4 .f32 := Host.absf main_v11
  let main_cst_2 : FVec F S_ .f32 := constant S_ .f32 0x7F800000#32
  let main_v13 : FVec F S2048x4 .f32 := broadcastInDim S2048x4 ![] bcast_S_S2048x4 main_cst_2
  let main_v14 : IVec S2048x4 1 := cmpf .olt main_v12 main_v13
  let main_v15 : FVec F S2048 .f32 := (extractStridedSlice S2048 ![0] · slices_S2304_S2048_0) main_arg4
  let main_v16 : FVec F S2048 .f32 := Host.absf main_v15
  let main_cst_3 : FVec F S_ .f32 := constant S_ .f32 0x7F800000#32
  let main_v17 : FVec F S2048 .f32 := broadcastInDim S2048 ![] bcast_S_S2048 main_cst_3
  let main_v18 : IVec S2048 1 := cmpf .olt main_v16 main_v17
  (main_v2, main_v6, main_v10, main_v14, main_v18)
-- ==== Kernel.lean ====
abbrev S2x2048x1024 : Shape := ⟨3, ![2, 2048, 1024]⟩
abbrev S1024 : Shape := ⟨1, ![1024]⟩
abbrev S4384x1024 : Shape := ⟨2, ![4384, 1024]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S_ : Shape := ⟨0, ![]⟩
abbrev S8x2304 : Shape := ⟨2, ![8, 2304]⟩
abbrev S4x2304 : Shape := ⟨2, ![4, 2304]⟩
abbrev S1 : Shape := ⟨1, ![1]⟩
abbrev S32x1 : Shape := ⟨2, ![32, 1]⟩
abbrev S1x2048 : Shape := ⟨2, ![1, 2048]⟩
abbrev S32x2048 : Shape := ⟨2, ![32, 2048]⟩
abbrev S64x4096 : Shape := ⟨2, ![64, 4096]⟩
abbrev S2 : Shape := ⟨1, ![2]⟩
abbrev S1x1024 : Shape := ⟨2, ![1, 1024]⟩
abbrev S1x2304 : Shape := ⟨2, ![1, 2304]⟩
abbrev S1x32 : Shape := ⟨2, ![1, 32]⟩
abbrev S1x256x1024 : Shape := ⟨3, ![1, 256, 1024]⟩
abbrev S128x2048 : Shape := ⟨2, ![128, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S256x4384 : Shape := ⟨2, ![256, 4384]⟩
abbrev S256x2304 : Shape := ⟨2, ![256, 2304]⟩
abbrev S256x32 : Shape := ⟨2, ![256, 32]⟩
abbrev S264x2304 : Shape := ⟨2, ![264, 2304]⟩
abbrev S3x2304 : Shape := ⟨2, ![3, 2304]⟩
abbrev S256x128 : Shape := ⟨2, ![256, 128]⟩
abbrev S256x256 : Shape := ⟨2, ![256, 256]⟩
abbrev S128x128 : Shape := ⟨2, ![128, 128]⟩
abbrev S32x256 : Shape := ⟨2, ![32, 256]⟩
abbrev S256x64 : Shape := ⟨2, ![256, 64]⟩
abbrev S256x4096 : Shape := ⟨2, ![256, 4096]⟩
abbrev S128x1 : Shape := ⟨2, ![128, 1]⟩
abbrev S1x128 : Shape := ⟨2, ![1, 128]⟩
abbrev S1x1 : Shape := ⟨2, ![1, 1]⟩
abbrev S128x64 : Shape := ⟨2, ![128, 64]⟩

abbrev nBuf : Space → Nat
  | .hbm => 63
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S4384x1024, .f32⟩
  | .hbm, ⟨3, _⟩ => ⟨S2304x4, .f32⟩
  | .hbm, ⟨4, _⟩ => ⟨S2304, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S1024x2048, .f32⟩
  | .hbm, ⟨10, _⟩ => ⟨S_, .f32⟩
  | .hbm, ⟨11, _⟩ => ⟨S8x2304, .f32⟩
  | .hbm, ⟨12, _⟩ => ⟨S4x2304, .f32⟩
  | .hbm, ⟨13, _⟩ => ⟨S_, .i32⟩
  | .hbm, ⟨14, _⟩ => ⟨S1, .i32⟩
  | .hbm, ⟨15, _⟩ => ⟨S8x2304, .f32⟩
  | .hbm, ⟨16, _⟩ => ⟨S32, .i32⟩
  | .hbm, ⟨17, _⟩ => ⟨S32x1, .i32⟩
  | .hbm, ⟨18, _⟩ => ⟨S2048, .i32⟩
  | .hbm, ⟨19, _⟩ => ⟨S1x2048, .i32⟩
  | .hbm, ⟨20, _⟩ => ⟨S_, .i32⟩
  | .hbm, ⟨21, _⟩ => ⟨S_, .i32⟩
  | .hbm, ⟨22, _⟩ => ⟨S1x2048, .i32⟩
  | .hbm, ⟨23, _⟩ => ⟨S1x2048, .i32⟩
  | .hbm, ⟨24, _⟩ => ⟨S1x2048, .i32⟩
  | .hbm, ⟨25, _⟩ => ⟨S_, .i32⟩
  | .hbm, ⟨26, _⟩ => ⟨S1x2048, .i32⟩
  | .hbm, ⟨27, _⟩ => ⟨S1x2048, .i1⟩
  | .hbm, ⟨28, _⟩ => ⟨S1x2048, .i32⟩
  | .hbm, ⟨29, _⟩ => ⟨S1x2048, .i32⟩
  | .hbm, ⟨30, _⟩ => ⟨S_, .i32⟩
  | .hbm, ⟨31, _⟩ => ⟨S1x2048, .i32⟩
  | .hbm, ⟨32, _⟩ => ⟨S1x2048, .i1⟩
  | .hbm, ⟨33, _⟩ => ⟨S1x2048, .i1⟩
  | .hbm, ⟨34, _⟩ => ⟨S_, .i32⟩
  | .hbm, ⟨35, _⟩ => ⟨S1x2048, .i32⟩
  | .hbm, ⟨36, _⟩ => ⟨S1x2048, .i32⟩
  | .hbm, ⟨37, _⟩ => ⟨S1x2048, .i32⟩
  | .hbm, ⟨38, _⟩ => ⟨S32x2048, .i32⟩
  | .hbm, ⟨39, _⟩ => ⟨S32x2048, .i32⟩
  | .hbm, ⟨40, _⟩ => ⟨S32x2048, .i1⟩
  | .hbm, ⟨41, _⟩ => ⟨S32x2048, .bf16⟩
  | .hbm, ⟨42, _⟩ => ⟨S_, .bf16⟩
  | .hbm, ⟨43, _⟩ => ⟨S64x4096, .bf16⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S64x4096, .bf16⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S64x4096, .bf16⟩
  | .hbm, ⟨56, _⟩ => ⟨S1x1024, .f32⟩
  | .hbm, ⟨57, _⟩ => ⟨S1x2304, .f32⟩
  | .hbm, ⟨58, _⟩ => ⟨S1x32, .f32⟩
  | .hbm, ⟨59, _⟩ => ⟨S1x32, .f32⟩
  | .hbm, ⟨60, _⟩ => ⟨S1x32, .f32⟩
  | .hbm, ⟨61, _⟩ => ⟨S1x2048, .f32⟩
  | .hbm, ⟨62, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S4384x1024, .f32⟩
  | .local _ .vmem, ⟨4, _⟩ => ⟨S8x2304, .f32⟩
  | .local _ .vmem, ⟨5, _⟩ => ⟨S1x2304, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x2048, .f32⟩
  | .local _ .vmem, ⟨10, _⟩ => ⟨S1024x2048, .f32⟩
  | .local _ .vmem, ⟨11, _⟩ => ⟨S32x2048, .bf16⟩
  | .local _ .vmem, ⟨12, _⟩ => ⟨S64x4096, .bf16⟩
  | .local _ .vmem, ⟨13, _⟩ => ⟨S1x256x1024, .f32⟩
  | .local _ .vmem, ⟨14, _⟩ => ⟨S1x256x1024, .f32⟩
  | .local _ .vmem, ⟨15, _⟩ => ⟨S128x2048, .f32⟩
  | .local _ .vmem, ⟨16, _⟩ => ⟨S8x2304, .f32⟩
  | .local _ .vmem, ⟨17, _⟩ => ⟨S256x2048, .f32⟩
  | .local _ .vmem, ⟨18, _⟩ => ⟨S4384x1024, .bf16⟩
  | .local _ .vmem, ⟨19, _⟩ => ⟨S1024x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_c_3 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_4 : Ref sig .tc := ⟨.hbm, 50, rfl⟩
abbrev main_v18 : Ref sig .tc := ⟨.hbm, 51, rfl⟩
abbrev main_c_5 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x2048x1024 : Shape := ⟨3, ![2, 2048, 1024]⟩
abbrev S1024 : Shape := ⟨1, ![1024]⟩
abbrev S4384x1024 : Shape := ⟨2, ![4384, 1024]⟩
abbrev S2304x4 : Shape := ⟨2, ![2304, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4384 : Shape := ⟨3, ![2, 2048, 4384]⟩
abbrev S2x2048x2048 : Shape := ⟨3, ![2, 2048, 2048]⟩
abbrev S2x2048x2304 : Shape := ⟨3, ![2, 2048, 2304]⟩
abbrev S2x2048x32 : Shape := ⟨3, ![2, 2048, 32]⟩
abbrev S2x2051x2304 : Shape := ⟨3, ![2, 2051, 2304]⟩
abbrev S2304x1 : Shape := ⟨2, ![2304, 1]⟩
abbrev S1x1x2304 : Shape := ⟨3, ![1, 1, 2304]⟩
abbrev S2x2048x128 : Shape := ⟨3, ![2, 2048, 128]⟩
abbrev S1x1x32 : Shape := ⟨3, ![1, 1, 32]⟩
abbrev S2x2048x32x64 : Shape := ⟨4, ![2, 2048, 32, 64]⟩
abbrev S2x2048x32x1 : Shape := ⟨4, ![2, 2048, 32, 1]⟩
abbrev S2x8x256x32x64 : Shape := ⟨5, ![2, 8, 256, 32, 64]⟩
abbrev S2x8x256x32 : Shape := ⟨4, ![2, 8, 256, 32]⟩
abbrev S2x32x8x256 : Shape := ⟨4, ![2, 32, 8, 256]⟩
abbrev S2x8x256x128 : Shape := ⟨4, ![2, 8, 256, 128]⟩
abbrev S2x32x8x256x1 : Shape := ⟨5, ![2, 32, 8, 256, 1]⟩
abbrev S2x32x8x1x256 : Shape := ⟨5, ![2, 32, 8, 1, 256]⟩
abbrev S2x32x8x256x256 : Shape := ⟨5, ![2, 32, 8, 256, 256]⟩
abbrev S256x256 : Shape := ⟨2, ![256, 256]⟩
abbrev S2x8x256x256 : Shape := ⟨4, ![2, 8, 256, 256]⟩
abbrev S2x1x8x256x256 : Shape := ⟨5, ![2, 1, 8, 256, 256]⟩
abbrev S2x8x32x64x256 : Shape := ⟨5, ![2, 8, 32, 64, 256]⟩
abbrev S2x32x8x1 : Shape := ⟨4, ![2, 32, 8, 1]⟩
abbrev S2x8x256x32x1 : Shape := ⟨5, ![2, 8, 256, 32, 1]⟩
abbrev S2x8x32x64x128 : Shape := ⟨5, ![2, 8, 32, 64, 128]⟩
abbrev S2x1x32x64x128 : Shape := ⟨5, ![2, 1, 32, 64, 128]⟩
abbrev S2x9x32x64x128 : Shape := ⟨5, ![2, 9, 32, 64, 128]⟩
abbrev S2x32x8 : Shape := ⟨3, ![2, 32, 8]⟩
abbrev S2x32x9 : Shape := ⟨3, ![2, 32, 9]⟩
abbrev S2x32x9x1 : Shape := ⟨4, ![2, 32, 9, 1]⟩
abbrev S2x32x1x9 : Shape := ⟨4, ![2, 32, 1, 9]⟩
abbrev S2x32x9x9 : Shape := ⟨4, ![2, 32, 9, 9]⟩
abbrev S9x9 : Shape := ⟨2, ![9, 9]⟩
abbrev S2x32x64x128x9 : Shape := ⟨5, ![2, 32, 64, 128, 9]⟩
abbrev S1x1x32x1 : Shape := ⟨4, ![1, 1, 32, 1]⟩
abbrev S1x1x2048 : Shape := ⟨3, ![1, 1, 2048]⟩

abbrev nBuf : Space → Nat
  | .hbm => 230
  | .vmem => 0
  | .smem => 0
  | _ => 0

abbrev hbmTy0_0 (i : Nat) : BufTy := match i % 128 with
  | 0 => ⟨S2x2048x1024, .f32⟩
  | 1 => ⟨S1024, .f32⟩
  | 2 => ⟨S4384x1024, .f32⟩
  | 3 => ⟨S2304x4, .f32⟩
  | 4 => ⟨S2304, .f32⟩
  | 5 => ⟨S32, .f32⟩
  | 6 => ⟨S32, .f32⟩
  | 7 => ⟨S32, .f32⟩
  | 8 => ⟨S2048, .f32⟩
  | 9 => ⟨S1024x2048, .f32⟩
  | 10 => ⟨S2x2048x1024, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048x1, .f32⟩
  | 19 => ⟨S2x2048x1, .f32⟩
  | 20 => ⟨S2x2048x1, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S2x2048x4384, .f32⟩
  | 27 => ⟨S2x2048x2048, .f32⟩
  | 28 => ⟨S2x2048x2304, .f32⟩
  | 29 => ⟨S2x2048x32, .f32⟩
  | 30 => ⟨S_, .i32⟩
  | 31 => ⟨S_, .f32⟩
  | 32 => ⟨S2x2051x2304, .f32⟩
  | 33 => ⟨S2x2048x2304, .f32⟩
  | 34 => ⟨S2304x1, .f32⟩
  | 35 => ⟨S2304, .f32⟩
  | 36 => ⟨S1x1x2304, .f32⟩
  | 37 => ⟨S2x2048x2304, .f32⟩
  | 38 => ⟨S2x2048x2304, .f32⟩
  | 39 => ⟨S_, .f32⟩
  | 40 => ⟨S2x2048x2304, .f32⟩
  | 41 => ⟨S2x2048x2304, .f32⟩
  | 42 => ⟨S2x2048x2304, .f32⟩
  | 43 => ⟨S2304x1, .f32⟩
  | 44 => ⟨S2304, .f32⟩
  | 45 => ⟨S1x1x2304, .f32⟩
  | 46 => ⟨S2x2048x2304, .f32⟩
  | 47 => ⟨S2x2048x2304, .f32⟩
  | 48 => ⟨S2x2048x2304, .f32⟩
  | 49 => ⟨S2x2048x2304, .f32⟩
  | 50 => ⟨S2304x1, .f32⟩
  | 51 => ⟨S2304, .f32⟩
  | 52 => ⟨S1x1x2304, .f32⟩
  | 53 => ⟨S2x2048x2304, .f32⟩
  | 54 => ⟨S2x2048x2304, .f32⟩
  | 55 => ⟨S2x2048x2304, .f32⟩
  | 56 => ⟨S2x2048x2304, .f32⟩
  | 57 => ⟨S2304x1, .f32⟩
  | 58 => ⟨S2304, .f32⟩
  | 59 => ⟨S1x1x2304, .f32⟩
  | 60 => ⟨S2x2048x2304, .f32⟩
  | 61 => ⟨S2x2048x2304, .f32⟩
  | 62 => ⟨S2x2048x2304, .f32⟩
  | 63 => ⟨S1x1x2304, .f32⟩
  | 64 => ⟨S2x2048x2304, .f32⟩
  | 65 => ⟨S2x2048x2304, .f32⟩
  | 66 => ⟨S2x2048x2304, .f32⟩
  | 67 => ⟨S2x2048x2304, .f32⟩
  | 68 => ⟨S_, .f32⟩
  | 69 => ⟨S2x2048x2304, .f32⟩
  | 70 => ⟨S2x2048x2304, .f32⟩
  | 71 => ⟨S_, .f32⟩
  | 72 => ⟨S2x2048x2304, .f32⟩
  | 73 => ⟨S2x2048x2304, .f32⟩
  | 74 => ⟨S2x2048x2304, .f32⟩
  | 75 => ⟨S2x2048x2048, .f32⟩
  | 76 => ⟨S2x2048x128, .f32⟩
  | 77 => ⟨S2x2048x128, .f32⟩
  | 78 => ⟨S1x1x32, .f32⟩
  | 79 => ⟨S2x2048x32, .f32⟩
  | 80 => ⟨S2x2048x32, .f32⟩
  | 81 => ⟨S_, .f32⟩
  | 82 => ⟨S2x2048x32, .f32⟩
  | 83 => ⟨S2x2048x32, .f32⟩
  | 84 => ⟨S2x2048x32, .f32⟩
  | 85 => ⟨S2x2048x32, .f32⟩
  | 86 => ⟨S2x2048x32, .i1⟩
  | 87 => ⟨S2x2048x32, .f32⟩
  | 88 => ⟨S2x2048x32, .f32⟩
  | 89 => ⟨S2x2048x32, .f32⟩
  | 90 => ⟨S2x2048x32, .f32⟩
  | 91 => ⟨S2x2048x32, .f32⟩
  | 92 => ⟨S2x2048x32, .f32⟩
  | 93 => ⟨S2x2048x32, .f32⟩
  | 94 => ⟨S2x2048x32, .f32⟩
  | 95 => ⟨S32, .f32⟩
  | 96 => ⟨S32, .f32⟩
  | 97 => ⟨S2x2048x32x64, .f32⟩
  | 98 => ⟨S2x2048x32x1, .f32⟩
  | 99 => ⟨S2x2048x32x64, .f32⟩
  | 100 => ⟨S2x2048x32x64, .f32⟩
  | 101 => ⟨S1x1x32, .f32⟩
  | 102 => ⟨S2x2048x32, .f32⟩
  | 103 => ⟨S2x2048x32, .f32⟩
  | 104 => ⟨S2x8x256x32x64, .f32⟩
  | 105 => ⟨S2x8x256x32, .f32⟩
  | 106 => ⟨S2x32x8x256, .f32⟩
  | 107 => ⟨S2x8x256x128, .f32⟩
  | 108 => ⟨S2x8x256x128, .f32⟩
  | 109 => ⟨S_, .f32⟩
  | 110 => ⟨S_, .f32⟩
  | 111 => ⟨S2x32x8x256, .f32⟩
  | 112 => ⟨S_, .f32⟩
  | 113 => ⟨S_, .f32⟩
  | 114 => ⟨S2x32x8x256, .f32⟩
  | 115 => ⟨S2x32x8x256x1, .f32⟩
  | 116 => ⟨S2x32x8x1x256, .f32⟩
  | 117 => ⟨S2x32x8x256x256, .f32⟩
  | 118 => ⟨S2x32x8x256x256, .f32⟩
  | 119 => ⟨S2x32x8x256x256, .f32⟩
  | 120 => ⟨S_, .i1⟩
  | 121 => ⟨S256x256, .i1⟩
  | 122 => ⟨S256x256, .i32⟩
  | 123 => ⟨S_, .i32⟩
  | 124 => ⟨S256x256, .i32⟩
  | 125 => ⟨S256x256, .i32⟩
  | 126 => ⟨S256x256, .i32⟩
  | 127 => ⟨S256x256, .i1⟩
  | _ => ⟨S2x2048x1024, .f32⟩

abbrev hbmTy0_1 (i : Nat) : BufTy := match i % 128 with
  | 0 => ⟨S_, .i1⟩
  | 1 => ⟨S256x256, .i1⟩
  | 2 => ⟨S256x256, .i1⟩
  | 3 => ⟨S_, .f32⟩
  | 4 => ⟨S_, .f32⟩
  | 5 => ⟨S2x32x8x256x256, .i1⟩
  | 6 => ⟨S2x32x8x256x256, .f32⟩
  | 7 => ⟨S2x32x8x256x256, .f32⟩
  | 8 => ⟨S2x32x8x256x256, .f32⟩
  | 9 => ⟨S2x8x256x256, .f32⟩
  | 10 => ⟨S2x1x8x256x256, .f32⟩
  | 11 => ⟨S2x32x8x256x256, .f32⟩
  | 12 => ⟨S2x32x8x256x256, .f32⟩
  | 13 => ⟨S2x8x32x64x256, .f32⟩
  | 14 => ⟨S2x8x256x32x64, .f32⟩
  | 15 => ⟨S2x32x8x1, .f32⟩
  | 16 => ⟨S2x32x8x256, .f32⟩
  | 17 => ⟨S2x32x8x256, .f32⟩
  | 18 => ⟨S2x32x8x256, .f32⟩
  | 19 => ⟨S2x8x256x32, .f32⟩
  | 20 => ⟨S2x8x256x32x1, .f32⟩
  | 21 => ⟨S2x8x256x32x64, .f32⟩
  | 22 => ⟨S2x8x256x32x64, .f32⟩
  | 23 => ⟨S2x8x32x64x128, .f32⟩
  | 24 => ⟨S2x1x32x64x128, .f32⟩
  | 25 => ⟨S_, .f32⟩
  | 26 => ⟨S2x1x32x64x128, .f32⟩
  | 27 => ⟨S2x9x32x64x128, .f32⟩
  | 28 => ⟨S2x32x8x1, .f32⟩
  | 29 => ⟨S2x32x8, .f32⟩
  | 30 => ⟨S_, .i32⟩
  | 31 => ⟨S_, .f32⟩
  | 32 => ⟨S2x32x9, .f32⟩
  | 33 => ⟨S_, .f32⟩
  | 34 => ⟨S_, .f32⟩
  | 35 => ⟨S2x32x9, .f32⟩
  | 36 => ⟨S2x32x9x1, .f32⟩
  | 37 => ⟨S2x32x1x9, .f32⟩
  | 38 => ⟨S2x32x9x9, .f32⟩
  | 39 => ⟨S2x32x9x9, .f32⟩
  | 40 => ⟨S2x32x9x9, .f32⟩
  | 41 => ⟨S_, .i1⟩
  | 42 => ⟨S9x9, .i1⟩
  | 43 => ⟨S9x9, .i32⟩
  | 44 => ⟨S_, .i32⟩
  | 45 => ⟨S9x9, .i32⟩
  | 46 => ⟨S9x9, .i32⟩
  | 47 => ⟨S9x9, .i32⟩
  | 48 => ⟨S9x9, .i1⟩
  | 49 => ⟨S_, .i1⟩
  | 50 => ⟨S9x9, .i1⟩
  | 51 => ⟨S9x9, .i1⟩
  | 52 => ⟨S_, .f32⟩
  | 53 => ⟨S_, .f32⟩
  | 54 => ⟨S2x32x9x9, .i1⟩
  | 55 => ⟨S2x32x9x9, .f32⟩
  | 56 => ⟨S2x32x9x9, .f32⟩
  | 57 => ⟨S2x32x9x9, .f32⟩
  | 58 => ⟨S2x32x64x128x9, .f32⟩
  | 59 => ⟨S2x9x32x64x128, .f32⟩
  | 60 => ⟨S2x8x32x64x128, .f32⟩
  | 61 => ⟨S2x8x256x32x64, .f32⟩
  | 62 => ⟨S2x32x8x256, .f32⟩
  | 63 => ⟨S2x8x256x32, .f32⟩
  | 64 => ⟨S2x8x256x32x1, .f32⟩
  | 65 => ⟨S2x8x256x32x64, .f32⟩
  | 66 => ⟨S2x8x256x32x64, .f32⟩
  | 67 => ⟨S2x8x256x32x64, .f32⟩
  | 68 => ⟨S2x2048x32x64, .f32⟩
  | 69 => ⟨S1x1x32x1, .f32⟩
  | 70 => ⟨S2x2048x32x64, .f32⟩
  | 71 => ⟨S2x2048x32x64, .f32⟩
  | 72 => ⟨S2x2048x32x64, .f32⟩
  | 73 => ⟨S2x2048x2048, .f32⟩
  | 74 => ⟨S2x2048x2048, .f32⟩
  | 75 => ⟨S2x2048x2048, .f32⟩
  | 76 => ⟨S_, .f32⟩
  | 77 => ⟨S2x2048x2048, .f32⟩
  | 78 => ⟨S2x2048x2048, .f32⟩
  | 79 => ⟨S_, .f32⟩
  | 80 => ⟨S2x2048x2048, .f32⟩
  | 81 => ⟨S2x2048x2048, .f32⟩
  | 82 => ⟨S2x2048x2048, .f32⟩
  | 83 => ⟨S2x2048x2048, .f32⟩
  | 84 => ⟨S2x2048x2048, .f32⟩
  | 85 => ⟨S_, .f32⟩
  | 86 => ⟨S2x2048, .f32⟩
  | 87 => ⟨S2x2048x1, .f32⟩
  | 88 => ⟨S_, .f32⟩
  | 89 => ⟨S2x2048x1, .f32⟩
  | 90 => ⟨S2x2048x1, .f32⟩
  | 91 => ⟨S_, .f32⟩
  | 92 => ⟨S2x2048x1, .f32⟩
  | 93 => ⟨S2x2048x1, .f32⟩
  | 94 => ⟨S2x2048x1, .f32⟩
  | 95 => ⟨S2x2048x2048, .f32⟩
  | 96 => ⟨S2x2048x2048, .f32⟩
  | 97 => ⟨S1x1x2048, .f32⟩
  | 98 => ⟨S2x2048x2048, .f32⟩
  | 99 => ⟨S2x2048x2048, .f32⟩
  | 100 => ⟨S2x2048x1024, .f32⟩
  | 101 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call2_call0_cst : Ref sig .tc := ⟨.hbm, 109, rfl⟩
abbrev main_call2_call0_v0 : Ref sig .tc := ⟨.hbm, 110, rfl⟩
abbrev main_v78 : Ref sig .tc := ⟨.hbm, 111, rfl⟩
abbrev main_call3_call0_cst : Ref sig .tc := ⟨.hbm, 112, rfl⟩
abbrev main_call3_call0_v0 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_5 : Ref sig .tc := ⟨.hbm, 120, rfl⟩
abbrev main_v85 : Ref sig .tc := ⟨.hbm, 121, rfl⟩
abbrev main_call4_v0 : Ref sig .tc := ⟨.hbm, 122, rfl⟩
abbrev main_call4_c : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_c_0 : Ref sig .tc := ⟨.hbm, 128, rfl⟩
abbrev main_call4_v5 : Ref sig .tc := ⟨.hbm, 129, rfl⟩
abbrev main_v86 : Ref sig .tc := ⟨.hbm, 130, rfl⟩
abbrev main_cst_6 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_7 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_8 : Ref sig .tc := ⟨.hbm, 158, rfl⟩
abbrev main_call6_v0 : Ref sig .tc := ⟨.hbm, 159, rfl⟩
abbrev main_v109 : Ref sig .tc := ⟨.hbm, 160, rfl⟩
abbrev main_call7_call0_cst : Ref sig .tc := ⟨.hbm, 161, rfl⟩
abbrev main_call7_call0_v0 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_9 : Ref sig .tc := ⟨.hbm, 169, rfl⟩
abbrev main_v116 : Ref sig .tc := ⟨.hbm, 170, rfl⟩
abbrev main_call8_v0 : Ref sig .tc := ⟨.hbm, 171, rfl⟩
abbrev main_call8_c : Ref sig .tc := ⟨.hbm, 172, rfl⟩
abbrev main_call8_v1 : Ref sig .tc := ⟨.hbm, 173, rfl⟩
abbrev main_call8_v2 : Ref sig .tc := ⟨.hbm, 174, rfl⟩
abbrev main_call8_v3 : Ref sig .tc := ⟨.hbm, 175, rfl⟩
abbrev main_call8_v4 : Ref sig .tc := ⟨.hbm, 176, rfl⟩
abbrev main_call8_c_0 : Ref sig .tc := ⟨.hbm, 177, rfl⟩
abbrev main_call8_v5 : Ref sig .tc := ⟨.hbm, 178, rfl⟩
abbrev main_v117 : Ref sig .tc := ⟨.hbm, 179, rfl⟩
abbrev main_cst_10 : Ref sig .tc := ⟨.hbm, 180, rfl⟩
abbrev main_call9_v0 : Ref sig .tc := ⟨.hbm, 181, rfl⟩
abbrev main_call9_v1 : Ref sig .tc := ⟨.hbm, 182, rfl⟩
abbrev main_call9_v2 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_cst_11 : Ref sig .tc := ⟨.hbm, 204, rfl⟩
abbrev main_v138 : Ref sig .tc := ⟨.hbm, 205, rfl⟩
abbrev main_v139 : Ref sig .tc := ⟨.hbm, 206, rfl⟩
abbrev main_cst_12 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_13 : Ref sig .tc := ⟨.hbm, 213, rfl⟩
abbrev main_v145 : Ref sig .tc := ⟨.hbm, 214, rfl⟩
abbrev main_v146 : Ref sig .tc := ⟨.hbm, 215, rfl⟩
abbrev main_cst_14 : Ref sig .tc := ⟨.hbm, 216, rfl⟩
abbrev main_v147 : Ref sig .tc := ⟨.hbm, 217, rfl⟩
abbrev main_v148 : Ref sig .tc := ⟨.hbm, 218, rfl⟩
abbrev main_cst_15 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩

abbrev nD : Nat := 1
abbrev τ : Topo := Topo.v7x

variable {F : FTy → Type} [FloatOps F]
-- ==== Proof.Step.lean ====
module

public import proofs.«01_k».proof.Proof.Gen.KernelIdeal.Value

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.Sem
variable {F : FTy → Type} [FloatOps F]

/-- A column of a (256, 32) array, from row 128·r, is inside it. -/
theorem slCol (r : Fin 2) (h : Fin 32) : S256x32.Slices ![128 * r.val, h.val] S128x1 :=
  ⟨rfl, (Fin.forall_fin_two (p := fun a : Fin 2 => (![128 * r.val, h.val] : Fin 2 → Nat) a + (![128, 1] : Fin 2 → Nat) a ≤ (![256, 32] : Fin 2 → Nat) a)).2
    ⟨by show 128 * r.val + 128 ≤ 256; omega, by show h.val + 1 ≤ 32; omega⟩⟩

/-- A row of a (32, 256) array, from column 128·r, is inside it. -/
theorem slRow (r : Fin 2) (h : Fin 32) : S32x256.Slices ![h.val, 128 * r.val] S1x128 :=
  ⟨rfl, (Fin.forall_fin_two (p := fun a : Fin 2 => (![h.val, 128 * r.val] : Fin 2 → Nat) a + (![1, 128] : Fin 2 → Nat) a ≤ (![32, 256] : Fin 2 → Nat) a)).2
    ⟨by show h.val + 1 ≤ 32; omega, by show 128 * r.val + 128 ≤ 256; omega⟩⟩

/-- The 64 columns of one head, 128 rows from row 128·r, are inside a (256, 2048) array. -/
theorem slHead (r : Fin 2) (h : Fin 32) : S256x2048.Slices ![128 * r.val, 64 * h.val] S128x64 :=
  ⟨rfl, (Fin.forall_fin_two (p := fun a : Fin 2 => (![128 * r.val, 64 * h.val] : Fin 2 → Nat) a + (![128, 64] : Fin 2 → Nat) a ≤ (![256, 2048] : Fin 2 → Nat) a)).2
    ⟨by show 128 * r.val + 128 ≤ 256; omega, by show 64 * h.val + 64 ≤ 2048; omega⟩⟩

/-- One entry of a row of 32 is inside it. -/
theorem inbD (h : Fin 32) : ∀ a, (![0, h.val] : Fin 2 → Nat) a + S1x1.size a ≤ S1x32.size a :=
  (Fin.forall_fin_two (p := fun a : Fin 2 => (![0, h.val] : Fin 2 → Nat) a + (![1, 1] : Fin 2 → Nat) a ≤ (![1, 32] : Fin 2 → Nat) a)).2
    ⟨by show 0 + 1 ≤ 1; omega, by show h.val + 1 ≤ 32; omega⟩

/-- The block of 128 rows and two heads is inside the (256, 2048) array. -/
theorem inbY (r : Fin 2) (k : Fin 16) : ∀ a, (![128 * r.val, 128 * k.val] : Fin 2 → Nat) a + (![128, 128] : Fin 2 → Nat) a ≤ S256x2048.size a :=
  (Fin.forall_fin_two (p := fun a : Fin 2 => (![128 * r.val, 128 * k.val] : Fin 2 → Nat) a + (![128, 128] : Fin 2 → Nat) a ≤ (![256, 2048] : Fin 2 → Nat) a)).2
    ⟨by show 128 * r.val + 128 ≤ 256; omega, by show 128 * k.val + 128 ≤ 2048; omega⟩

section heads
variable (a : FVec F S256x32 .f32) (aT : FVec F S32x256 .f32) (dT : FVec F S32x256 .bf16)
  (q11 q21 q22 : FVec F S128x128 .bf16) (dv : Vec F S1x32 .f32) (idm : FVec F S128x128 .bf16) (xb : FVec F S256x2048 .bf16)

/-- The decayed scores of head `h` in diagonal block `r` (rows and columns 128·r …), times dt, plus D on the diagonal. -/
def mDiag (r : Fin 2) (h : Fin 32) (q : FVec F S128x128 .bf16) : FVec F S128x128 .bf16 :=
  addf (mulf (mulf (truncf .bf16 (exp (minimumf (subf
      (broadcastTo S128x128 (extractStridedSlice S128x1 ![128 * r.val, h.val] a (slCol r h)) broadcasts_S128x1_S128x128)
      (broadcastTo S128x128 (extractStridedSlice S1x128 ![h.val, 128 * r.val] aT (slRow r h)) broadcasts_S1x128_S128x128))
      (broadcast S128x128 (Scalar.ofBits .f32 0x00000000#32 : F .f32)))) bitsLt_bf16_f32) q)
      (broadcastTo S128x128 (extractStridedSlice S1x128 ![h.val, 128 * r.val] dT (slRow r h)) broadcasts_S1x128_S128x128))
    (mulf (broadcastTo S128x128 (truncf .bf16 (shapeCast S1x1 (View.ld dv (Rect.unit ![0, h.val] ![1, 1] (inbD h))) shapeCasts_S1x1_S1x1) bitsLt_bf16_f32) broadcasts_S1x1_S128x128) idm)

/-- The decayed scores of head `h` in the block below the diagonal (rows 128 …, columns 0 …), times dt. -/
def mLow (h : Fin 32) : FVec F S128x128 .bf16 :=
  mulf (mulf (truncf .bf16 (exp (subf
      (broadcastTo S128x128 (extractStridedSlice S128x1 ![128 * (1 : Fin 2).val, h.val] a (slCol 1 h)) broadcasts_S128x1_S128x128)
      (broadcastTo S128x128 (extractStridedSlice S1x128 ![h.val, 128 * (0 : Fin 2).val] aT (slRow 0 h)) broadcasts_S1x128_S128x128))) bitsLt_bf16_f32) q21)
      (broadcastTo S128x128 (extractStridedSlice S1x128 ![h.val, 128 * (0 : Fin 2).val] dT (slRow 0 h)) broadcasts_S1x128_S128x128)

/-- A (128, 128) block of scores applied to 128 rows of one head's input. -/
def mApply (r : Fin 2) (h : Fin 32) (w : FVec F S128x128 .bf16) : FVec F S128x64 .f32 :=
  matmul dot_S128x128_S128x64_S128x64_1_0_0_1_n_n none w (extractStridedSlice S128x64 ![128 * r.val, 64 * h.val] xb (slHead r h)) (constant S128x64 .f32 0x00000000#32)

/-- Head `h`, rows 0 … 127 of the chunk. -/
def headTop (h : Fin 32) : FVec F S128x64 .f32 := mApply xb 0 h (mDiag a aT dT dv idm 0 h q11)

/-- Head `h`, rows 128 … 255 of the chunk. -/
def headBot (h : Fin 32) : FVec F S128x64 .f32 :=
  addf (mApply xb 0 h (mLow a aT dT q21 h)) (mApply xb 1 h (mDiag a aT dT dv idm 1 h q22))

/-- Two heads side by side. -/
def pairUp (f : Fin 32 → FVec F S128x64 .f32) (k : Fin 16) : FVec F S128x128 .f32 :=
  shapeCast S128x128 (concatenate S128x128 1 [⟨S128x64, f ⟨2 * k.val, by omega⟩⟩, ⟨S128x64, f ⟨2 * k.val + 1, by omega⟩⟩]
    concatenates_S128x64_S128x64_S128x128_d1) shapeCasts_S128x128_S128x128

/-- The write of two heads' upper rows. -/
def pTop (k : Fin 16) : View.Piece (Elt F) S256x2048 .f32 :=
  ⟨Rect.unit ![128 * (0 : Fin 2).val, 128 * k.val] ![128, 128] (inbY 0 k), pairUp (headTop a aT dT q11 dv idm xb) k⟩

/-- The write of two heads' lower rows. -/
def pBot (k : Fin 16) : View.Piece (Elt F) S256x2048 .f32 :=
  ⟨Rect.unit ![128 * (1 : Fin 2).val, 128 * k.val] ![128, 128] (inbY 1 k), pairUp (headBot a aT dT q21 q22 dv idm xb) k⟩

/-- The 32 writes that make up the within-chunk output, last first. -/
def yPieces : List (View.Piece (Elt F) S256x2048 .f32) :=
  [15, 14, 13, 12, 11, 10, 9, 8, 7, 6, 5, 4, 3, 2, 1, 0].flatMap fun k : Fin 16 => [pBot a aT dT q21 q22 dv idm xb k, pTop a aT dT q11 dv idm xb k]
end heads

section step
variable (x0 : Vec F S1x256x1024 .f32) (x1 : Vec F S1x1024 .f32) (x3 : Vec F S8x2304 .f32) (x4 : Vec F S1x2304 .f32) (x5 : Vec F S1x32 .f32)
  (x6 : Vec F S1x32 .f32) (x7 : Vec F S1x32 .f32) (x8 : Vec F S1x2048 .f32) (x10 : Vec F S32x2048 .bf16) (x11 : Vec F S64x4096 .bf16)
  (st : Vec F S128x2048 .f32) (hi : Vec F S8x2304 .f32) (wi : Vec F S4384x1024 .bf16) (wo : Vec F S1024x2048 .bf16)

/-- The conv output, x part (256, 2048). -/
def sXs : FVec F S256x2048 .f32 := k0_pay18 (k0_pay11 x0 x1 wi hi) (k0_pay12 x3) (k0_pay13 x0 x1 wi hi x3) (k0_pay14 x0 x1 wi hi) (k0_pay15 x3) x4
/-- The conv output, B part (256, 128). -/
def sB : FVec F S256x128 .f32 := k0_pay19 (k0_pay11 x0 x1 wi hi) (k0_pay12 x3) (k0_pay13 x0 x1 wi hi x3) (k0_pay14 x0 x1 wi hi) (k0_pay15 x3) x4
/-- The conv output, C part (256, 128). -/
def sC : FVec F S256x128 .f32 := k0_pay20 (k0_pay11 x0 x1 wi hi) (k0_pay12 x3) (k0_pay13 x0 x1 wi hi x3) (k0_pay14 x0 x1 wi hi) (k0_pay15 x3) x4
/-- The dt pre-activation (256, 32). -/
def sDt : FVec F S256x32 .f32 := k0_pay24 (k0_pay10 x0 x1 wi) x5

/-- The state after the chunk. -/
def stepState : Vec F S128x2048 .f32 :=
  k0_pay40 (sXs x0 x1 x3 x4 hi wi) (k0_pay32 k0_pay22 (sDt x0 x1 x5 wi) k0_pay25 x6 x11) (k0_pay34 k0_pay22 (sDt x0 x1 x5 wi) k0_pay25 x6 x10)
    (k0_pay35 (sB x0 x1 x3 x4 hi wi)) st

/-- The within-chunk output (256, 2048). -/
def stepY : FVec F S256x2048 .f32 :=
  View.canon (yPieces (k0_pay27 k0_pay22 (sDt x0 x1 x5 wi) k0_pay25 x6) (k0_pay28 k0_pay22 (sDt x0 x1 x5 wi) k0_pay25 x6)
    (k0_pay29 (sDt x0 x1 x5 wi) k0_pay25)
    (k0_pay41 k0_pay21 (k0_pay35 (sB x0 x1 x3 x4 hi wi)) (k0_pay36 (sC x0 x1 x3 x4 hi wi)) (constant S256x256 .f32 0x00000000#32))
    (k0_pay42 k0_pay21 (k0_pay35 (sB x0 x1 x3 x4 hi wi)) (k0_pay36 (sC x0 x1 x3 x4 hi wi)) (constant S256x256 .f32 0x00000000#32))
    (k0_pay43 k0_pay21 (k0_pay35 (sB x0 x1 x3 x4 hi wi)) (k0_pay36 (sC x0 x1 x3 x4 hi wi)) (constant S256x256 .f32 0x00000000#32))
    x7 k0_pay23 (k0_pay38 (sXs x0 x1 x3 x4 hi wi)))

/-- The gated output before the norm (256, 2048). -/
def stepG : FVec F S256x2048 .f32 :=
  k0_pay370 (k0_pay8 x0 x1 wi) (k0_pay33 k0_pay22 (sDt x0 x1 x5 wi) k0_pay25 x6 x11) (k0_pay39 (k0_pay36 (sC x0 x1 x3 x4 hi wi)) st)
    (stepY x0 x1 x3 x4 x5 x6 x7 hi wi)

/-- The output block of the chunk. -/
def stepOut : Vec F S1x256x1024 .f32 :=
  k0_pay1 (k0_pay6 x0) (stepG x0 x1 x3 x4 x5 x6 x7 x11 st hi wi)
    (k0_pay371 (k0_pay8 x0 x1 wi) (k0_pay33 k0_pay22 (sDt x0 x1 x5 wi) k0_pay25 x6 x11) (k0_pay39 (k0_pay36 (sC x0 x1 x3 x4 hi wi)) st)
    (stepY x0 x1 x3 x4 x5 x6 x7 hi wi)) x8 wo
end step

/-- Two zero offsets are the zero offset. -/
theorem hz2 : (![0,0] : Fin 2 → Nat) = fun _ => 0 := funext fun a => by fin_cases a <;> rfl
/-- Three zero offsets are the zero offset. -/
theorem hz3 : (![0,0,0] : Fin 3 → Nat) = fun _ => 0 := funext fun a => by fin_cases a <;> rfl

variable (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S4384x1024 .f32) (harg4 : arg4.IsWhole) (arg5 : Memref sig .tc .vmem S8x2304 .f32) (harg5 : arg5.IsWhole) (arg6 : Memref sig .tc .vmem S1x2304 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S32x2048 .bf16) (harg12 : arg12.IsWhole) (arg13 : Memref sig .tc .vmem S64x4096 .bf16) (harg13 : arg13.IsWhole) (arg14 : Memref sig .tc .vmem S1x256x1024 .f32) (harg14 : arg14.IsWhole) (arg15 : Memref sig .tc .vmem S128x2048 .f32) (harg15 : arg15.IsWhole) (arg16 : Memref sig .tc .vmem S8x2304 .f32) (harg16 : arg16.IsWhole) (arg17 : Memref sig .tc .vmem S256x2048 .f32) (harg17 : arg17.IsWhole) (arg18 : Memref sig .tc .vmem S4384x1024 .bf16) (harg18 : arg18.IsWhole) (arg19 : Memref sig .tc .vmem S1024x2048 .bf16) (harg19 : arg19.IsWhole)
    (x0 : Vec F S1x256x1024 .f32) (x1 : Vec F S1x1024 .f32) (x2 : Vec F S4384x1024 .f32) (x3 : Vec F S8x2304 .f32) (x4 : Vec F S1x2304 .f32) (x5 : Vec F S1x32 .f32) (x6 : Vec F S1x32 .f32) (x7 : Vec F S1x32 .f32) (x8 : Vec F S1x2048 .f32) (x9 : Vec F S1024x2048 .f32) (x10 : Vec F S32x2048 .bf16) (x11 : Vec F S64x4096 .bf16) (xs0 : Vec F S128x2048 .f32) (xs1 : Vec F S8x2304 .f32) (xs3 : Vec F S4384x1024 .bf16) (xs4 : Vec F S1024x2048 .bf16)
set_option maxHeartbeats 400000

/-- A load of what a list of writes left is the load of their merged contents. -/
theorem readCov_ld {sig κ sp s e} {Val : EltTy → Type} [∀ e, Nonempty (Val e)] (v : View sig κ sp s e) (L : List (View.Piece Val s e)) (r : Rect s) :
    v.readCov L r.toLoadRect = View.ld (View.canon L) r := View.readCov_eq_canon' v L r.toLoadRect

/-- Rows 5 to 7 of the history after both writes are those of the last. -/
theorem canon_hist (w : S3x2304.Idx → Elt F .f32) (z : S8x2304.Idx → Elt F .f32) (j : S3x2304.Idx) :
    View.canon [(⟨Rect.unit ![5, 0] ![3, 2304] inb_S8x2304_S3x2304_5_0, w⟩ : View.Piece (Elt F) S8x2304 .f32),
      ⟨Rect.unit ![0, 0] ![8, 2304] inb_S8x2304_S8x2304_0_0, z⟩] ((Rect.unit (s := S8x2304) ![5, 0] ![3, 2304] inb_S8x2304_S3x2304_5_0).emb j) = w j :=
  View.canon_cons_emb (Rect.unit (s := S8x2304) ![5, 0] ![3, 2304] inb_S8x2304_S3x2304_5_0) w _ j

/-- The output block of a chunk after the first. -/
theorem outB (hc0 : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs3 xs4 =
    stepOut x0 x1 x3 x4 x5 x6 x7 x8 x11 xs0 xs1 xs3 xs4 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs3 xs4)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]
  dsimp only [stepOut, stepG, stepY, stepState, sXs, sB, sC, sDt]
  generalize k0_pay7 x0 x1 xs3 = z7
  generalize k0_pay11 x0 x1 xs3 xs1 = z11
  generalize k0_pay13 x0 x1 xs3 xs1 x3 = z13
  generalize k0_pay14 x0 x1 xs3 xs1 = z14
  generalize k0_pay12 x3 = z12
  generalize k0_pay15 x3 = z15
  generalize k0_pay10 x0 x1 xs3 = z10
  generalize k0_pay8 x0 x1 xs3 = z8
  generalize k0_pay24 z10 x5 = z24
  generalize k0_pay18 z11 z12 z13 z14 z15 x4 = z18
  generalize k0_pay19 z11 z12 z13 z14 z15 x4 = z19
  generalize k0_pay20 z11 z12 z13 z14 z15 x4 = z20
  generalize k0_pay27 k0_pay22 z24 k0_pay25 x6 = z27
  generalize k0_pay28 k0_pay22 z24 k0_pay25 x6 = z28
  generalize k0_pay29 z24 k0_pay25 = z29
  generalize k0_pay35 z19 = z35
  generalize k0_pay36 z20 = z36
  generalize k0_pay38 z18 = z38
  generalize k0_pay33 k0_pay22 z24 k0_pay25 x6 x11 = z33
  generalize k0_pay39 z36 xs0 = z39
  refine congrArg (fun y => k0_pay1 (k0_pay6 x0) (k0_pay370 z8 z33 z39 y) (k0_pay371 z8 z33 z39 y) x8 xs4) ?_
  refine congrArg View.canon ?_
  simp only [yPieces, List.flatMap_cons, List.cons_append, List.nil_append, List.flatMap_nil]
  repeat refine congrArg₂ List.cons rfl ?_
  rfl

/-- The output block of the first chunk. -/
theorem outA (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11  =
    stepOut x0 x1 x3 x4 x5 x6 x7 x8 x11 k0_pay2 k0_pay3 (k0_pay4 x2) (k0_pay5 x9) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]
  dsimp only [stepOut, stepG, stepY, stepState, sXs, sB, sC, sDt]
  generalize k0_pay7 x0 x1 (k0_pay4 x2) = z7
  generalize k0_pay11 x0 x1 (k0_pay4 x2) k0_pay3 = z11
  generalize k0_pay13 x0 x1 (k0_pay4 x2) k0_pay3 x3 = z13
  generalize k0_pay14 x0 x1 (k0_pay4 x2) k0_pay3 = z14
  generalize k0_pay12 x3 = z12
  generalize k0_pay15 x3 = z15
  generalize k0_pay10 x0 x1 (k0_pay4 x2) = z10
  generalize k0_pay8 x0 x1 (k0_pay4 x2) = z8
  generalize k0_pay24 z10 x5 = z24
  generalize k0_pay18 z11 z12 z13 z14 z15 x4 = z18
  generalize k0_pay19 z11 z12 z13 z14 z15 x4 = z19
  generalize k0_pay20 z11 z12 z13 z14 z15 x4 = z20
  generalize k0_pay27 k0_pay22 z24 k0_pay25 x6 = z27
  generalize k0_pay28 k0_pay22 z24 k0_pay25 x6 = z28
  generalize k0_pay29 z24 k0_pay25 = z29
  generalize k0_pay35 z19 = z35
  generalize k0_pay36 z20 = z36
  generalize k0_pay38 z18 = z38
  generalize k0_pay33 k0_pay22 z24 k0_pay25 x6 x11 = z33
  generalize k0_pay39 z36 k0_pay2 = z39
  refine congrArg (fun y => k0_pay1 (k0_pay6 x0) (k0_pay370 z8 z33 z39 y) (k0_pay371 z8 z33 z39 y) x8 (k0_pay5 x9)) ?_
  refine congrArg View.canon ?_
  simp only [yPieces, List.flatMap_cons, List.cons_append, List.nil_append, List.flatMap_nil]
  repeat refine congrArg₂ List.cons rfl ?_
  rfl

/-- The state after a chunk after the first. -/
theorem stateB (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs3 xs4 =
    stepState x0 x1 x3 x4 x5 x6 x10 x11 xs0 xs1 xs3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs3 xs4)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]
  rfl

/-- The state after the first chunk. -/
theorem stateA (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11  =
    stepState x0 x1 x3 x4 x5 x6 x10 x11 k0_pay2 k0_pay3 (k0_pay4 x2) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]
  rfl

/-- The last three rows kept after a chunk after the first. -/
theorem histB (hc0 : ¬cond0_0 i) (j : S3x2304.Idx) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs3 xs4 ((Rect.unit (s := S8x2304) ![5, 0] S3x2304.size inb_S8x2304_S3x2304_5_0).emb j) =
    k0_pay17 (k0_pay9 x0 x1 xs3) j := by
  unfold sout0_B_1
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]
  rw [View.writes_cons]
  exact View.read_slice_write_emb _ _ _ (Finset.mem_univ j)

/-- The last three rows kept after the first chunk. -/
theorem histA (hc0 : cond0_0 i) (j : S3x2304.Idx) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 ((Rect.unit (s := S8x2304) ![5, 0] S3x2304.size inb_S8x2304_S3x2304_5_0).emb j) =
    k0_pay17 (k0_pay9 x0 x1 (k0_pay4 x2)) j := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]
  exact canon_hist _ _ j

/-- A weight array kept from the first chunk on. -/
theorem wA3 (hc0 : cond0_0 i) : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11  =
    k0_pay4 x2 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]

/-- A weight array kept from the first chunk on. -/
theorem wA4 (hc0 : cond0_0 i) : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11  =
    k0_pay5 x9 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 )]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, harg18.read_unread, harg19.read_unread, View.ld_unit_zero (S := S1x256x1024) hz3, View.ld_unit_zero (S := S1x1024) hz2, View.ld_unit_zero (S := S4384x1024) hz2, View.ld_unit_zero (S := S8x2304) hz2, View.ld_unit_zero (S := S1x2304) hz2, View.ld_unit_zero (S := S1x32) hz2, View.ld_unit_zero (S := S1x2048) hz2, View.ld_unit_zero (S := S1024x2048) hz2, View.ld_unit_zero (S := S32x2048) hz2, View.ld_unit_zero (S := S64x4096) hz2, View.ld_unit_zero (S := S128x2048) hz2, View.ld_unit_zero (S := S256x2048) hz2, View.canon_unit_zero (S := S1x256x1024) hz3, View.canon_unit_zero (S := S128x2048) hz2, View.canon_unit_zero (S := S8x2304) hz2, View.canon_unit_zero (S := S4384x1024) hz2, View.canon_unit_zero (S := S1024x2048) hz2, View.canon_unit_zero (S := S256x2048) hz2, View.canon_cons_unit_zero (S := S128x2048) hz2, readCov_ld]

end Cert.KernelIdeal.Hand
-- ==== Proof.Spec.lean ====
/-
  The mathematics of the block for one batch row block, over the extended reals, at coordinates: the stages both
  programs share, then the chunk output as the kernel computes it (`kG`, the state carried from chunk to chunk) and as
  the reference computes it (`rG`, the states combined through the table of chunk decays), and the common tail.
-/
module

public import Idealize.ShloMosaic.PureOps.Ideal
public import Idealize.ShloMosaic.Lib.Pointwise

@[expose] public section
noncomputable section
namespace Cert.Spec
open Idealize.ShloMosaic
open scoped BigOperators

/-- The arrays of one batch element. -/
structure Args where
  x : Fin 2048 → Fin 1024 → EReal
  nw : Fin 1024 → EReal
  wi : Fin 4384 → Fin 1024 → EReal
  cw : Fin 2304 → Fin 4 → EReal
  cb : Fin 2304 → EReal
  dtb : Fin 32 → EReal
  al : Fin 32 → EReal
  dd : Fin 32 → EReal
  gw : Fin 2048 → EReal
  wo : Fin 1024 → Fin 2048 → EReal

/-- 1024, the width of a row. -/
def w1024 : EReal := Ideal.ofBits FTy.f32 1149239296#32
/-- 2048, the width of a gated row. -/
def w2048 : EReal := Ideal.ofBits FTy.f32 1157627904#32
/-- The norm's small constant. -/
def eps : EReal := Ideal.ofBits FTy.f32 925353388#32

/-- v times its logistic. -/
def silu (v : EReal) : EReal := v * Ideal.div 1 (1 + Ideal.exp (0 - v))

/-- Row `i` of chunk `c`. -/
def gr (c : ℕ) (i : Fin 256) : Fin 2048 := ⟨(256 * c + i.val) % 2048, Nat.mod_lt _ (by norm_num)⟩

/-- The head a column belongs to. -/
def hd (j : Fin 2048) : Fin 32 := ⟨j.val / 64, by omega⟩

namespace Args
variable (A : Args)

/-- The normed row. -/
def xn (l : Fin 2048) (e : Fin 1024) : EReal :=
  A.x l e * Ideal.rsqrt (Ideal.div (∑ k, A.x l k * A.x l k) w1024 + eps) * A.nw e
/-- The in-projection. -/
def zx (l : Fin 2048) (j : Fin 4384) : EReal := ∑ e, A.xn l e * A.wi j e
/-- The columns that are convolved. -/
def raw (l : Fin 2048) (ch : Fin 2304) : EReal := A.zx l ⟨2048 + ch.val, by omega⟩
/-- Row `n - 3` of them, zero before the start. -/
def tap (n : ℕ) (ch : Fin 2304) : EReal := if n < 3 then 0 else A.raw ⟨(n - 3) % 2048, Nat.mod_lt _ (by norm_num)⟩ ch
/-- The causal convolution. -/
def cv (l : Fin 2048) (ch : Fin 2304) : EReal :=
  A.tap l.val ch * A.cw ch 0 + A.tap (l.val + 1) ch * A.cw ch 1 + A.tap (l.val + 2) ch * A.cw ch 2 + A.tap (l.val + 3) ch * A.cw ch 3 + A.cb ch
/-- The convolution, activated. -/
def act (l : Fin 2048) (ch : Fin 2304) : EReal := silu (A.cv l ch)
/-- x of row `i` of chunk `c`. -/
def X (c : ℕ) (i : Fin 256) (j : Fin 2048) : EReal := A.act (gr c i) ⟨j.val, by omega⟩
/-- B of row `i` of chunk `c`. -/
def B (c : ℕ) (i : Fin 256) (n : Fin 128) : EReal := A.act (gr c i) ⟨2048 + n.val, by omega⟩
/-- C of row `i` of chunk `c`. -/
def C (c : ℕ) (i : Fin 256) (n : Fin 128) : EReal := A.act (gr c i) ⟨2176 + n.val, by omega⟩
/-- The gate. -/
def Z (c : ℕ) (i : Fin 256) (j : Fin 2048) : EReal := A.zx (gr c i) ⟨j.val, by omega⟩
/-- dt before softplus. -/
def dtr (c : ℕ) (i : Fin 256) (h : Fin 32) : EReal := A.zx (gr c i) ⟨4352 + h.val, by omega⟩ + A.dtb h
/-- dt after softplus. -/
def dt (c : ℕ) (i : Fin 256) (h : Fin 32) : EReal :=
  max (A.dtr c i h) 0 + Ideal.log (1 + Ideal.exp (0 - max (A.dtr c i h) (-(A.dtr c i h))))
/-- The exponent of the row's decay. -/
def dA (c : ℕ) (i : Fin 256) (h : Fin 32) : EReal := A.dt c i h * (0 - Ideal.exp (A.al h))
/-- The score of two rows of a chunk. -/
def CB (c : ℕ) (i s : Fin 256) : EReal := ∑ n, A.C c i n * A.B c s n

/-- Kernel: the running sum of the exponents, in two parts. -/
def ka (c : ℕ) (i : Fin 256) (h : Fin 32) : EReal :=
  (∑ s : Fin 256, if s ≤ i then A.dA c s h else 0) + ∑ s : Fin 256, if s ≤ i then A.dA c s h - A.dA c s h else 0
/-- Kernel: scores on and below the diagonal. -/
def cbm (c : ℕ) (i s : Fin 256) : EReal := if s ≤ i then A.CB c i s else 0
/-- Kernel: a term of a diagonal block. -/
def kT (c : ℕ) (i s : Fin 256) (j : Fin 2048) : EReal :=
  (Ideal.exp (min (A.ka c i (hd j) - A.ka c s (hd j)) 0) * A.cbm c i s * A.dt c s (hd j) + (if i = s then A.dd (hd j) else 0)) * A.X c s j
/-- Kernel: a term of the block below the diagonal. -/
def kL (c : ℕ) (i s : Fin 256) (j : Fin 2048) : EReal :=
  Ideal.exp (A.ka c i (hd j) - A.ka c s (hd j)) * A.cbm c i s * A.dt c s (hd j) * A.X c s j
/-- Kernel: the within-chunk output, two blocks of rows. -/
def kY (c : ℕ) (i : Fin 256) (j : Fin 2048) : EReal :=
  if i.val < 128 then ∑ s : Fin 128, A.kT c i ⟨s.val, by omega⟩ j
  else (∑ s : Fin 128, A.kL c i ⟨s.val, by omega⟩ j) + ∑ s : Fin 128, A.kT c i ⟨128 + s.val, by omega⟩ j
/-- Kernel: the state entering chunk `c`. -/
def kst : ℕ → Fin 128 → Fin 2048 → EReal
  | 0, _, _ => 0
  | c + 1, n, j => kst c n j * Ideal.exp (A.ka c 255 (hd j))
      + ∑ i, A.B c i n * (A.X c i j * (A.dt c i (hd j) * Ideal.exp (A.ka c 255 (hd j) - A.ka c i (hd j))))
/-- Kernel: the chunk output. -/
def kO (c : ℕ) (i : Fin 256) (j : Fin 2048) : EReal :=
  A.kY c i j + (∑ n, A.C c i n * A.kst c n j) * Ideal.exp (A.ka c i (hd j))

/-- Reference: the running sum of the exponents. -/
def ra (c : ℕ) (i : Fin 256) (h : Fin 32) : EReal := ∑ s : Fin 256, if s ≤ i then A.dA c s h else 0
/-- Reference: what chunk `c` adds to the state. -/
def rS (c : ℕ) (n : Fin 128) (j : Fin 2048) : EReal :=
  ∑ i, A.X c i j * A.dt c i (hd j) * Ideal.exp (A.ra c 255 (hd j) - A.ra c i (hd j)) * A.B c i n
/-- Reference: the running sum of the chunks' exponents, from an empty first chunk. -/
def rcs (k : Fin 9) (h : Fin 32) : EReal := ∑ q : Fin 9, if q ≤ k then (if q.val = 0 then 0 else A.ra (q.val - 1) 255 h) else 0
/-- Reference: the state entering chunk `c`. -/
def rSt (c : Fin 9) (n : Fin 128) (j : Fin 2048) : EReal :=
  ∑ k : Fin 9, (if k.val = 0 then 0 else A.rS (k.val - 1) n j) * Ideal.exp (if k ≤ c then A.rcs c (hd j) - A.rcs k (hd j) else ⊥)
/-- Reference: the chunk output. -/
def rO (c : Fin 8) (i : Fin 256) (j : Fin 2048) : EReal :=
  (∑ s, A.X c s j * A.dt c s (hd j) * (Ideal.exp (if s ≤ i then A.ra c i (hd j) - A.ra c s (hd j) else ⊥) * A.CB c i s))
    + (∑ n, A.C c i n * A.rSt c.castSucc n j) * Ideal.exp (A.ra c i (hd j)) + A.dd (hd j) * A.X c i j

/-- The gated norm, the out-projection and the residual, of a row. -/
def tail (c : ℕ) (i : Fin 256) (g : Fin 2048 → EReal) (e : Fin 1024) : EReal :=
  A.x (gr c i) e + ∑ j, g j * Ideal.rsqrt (Ideal.div (∑ k, g k * g k) w2048 + eps) * A.gw j * A.wo e j
/-- The row the kernel writes. -/
def kOut (c : ℕ) (i : Fin 256) (e : Fin 1024) : EReal := A.tail c i (fun j => A.kO c i j * silu (A.Z c i j)) e
/-- The row the reference writes. -/
def rOut (c : Fin 8) (i : Fin 256) (e : Fin 1024) : EReal := A.tail c i (fun j => A.rO c i j * silu (A.Z c i j)) e

/-- What the proof asks of the weights: those that reach x and dt are real. -/
structure Ok (A : Args) : Prop where
  nw : ∀ e, ∃ r : ℝ, A.nw e = r
  wx : ∀ (j : Fin 2048) e, ∃ r : ℝ, A.wi ⟨2048 + j.val, by omega⟩ e = r
  wdt : ∀ (h : Fin 32) e, ∃ r : ℝ, A.wi ⟨4352 + h.val, by omega⟩ e = r
  cw : ∀ (j : Fin 2048) k, ∃ r : ℝ, A.cw ⟨j.val, by omega⟩ k = r
  cb : ∀ j : Fin 2048, ∃ r : ℝ, A.cb ⟨j.val, by omega⟩ = r
end Args
end Cert.Spec
-- ==== Proof.Sel.lean ====
module

public import Idealize.ShloMosaic.PureOps.Ideal
public import Idealize.ShloMosaic.Lib.WordCmp

@[expose] public section
namespace Cert.Spec
open Idealize.ShloMosaic

/-- A `≥` of two small numbers as 32-bit words, used to select. -/
theorem sel_sge {φ : Type} (i s : ℕ) (hi : i < 256) (hs : s < 256) (a b : φ) :
    Scalar.select (IntOp.cmpi CmpIPredicate.sge (BitVec.ofNat 32 i) (BitVec.ofNat 32 s)) a b = if s ≤ i then a else b := by
  rw [WordCmp.cmpi_sge_ofNat (by omega) (by omega)]
  by_cases h : s ≤ i <;> simp [h, Scalar.select]

/-- An equality of two small numbers as 32-bit words, used to select. -/
theorem sel_eq {φ : Type} (i s : ℕ) (hi : i < 256) (hs : s < 256) (a b : φ) :
    Scalar.select (IntOp.cmpi CmpIPredicate.eq (BitVec.ofNat 32 i) (BitVec.ofNat 32 s)) a b = if i = s then a else b := by
  rw [WordCmp.cmpi_eq_ofNat (by omega) (by omega)]
  by_cases h : i = s <;> simp [h, Scalar.select]
end Cert.Spec
-- ==== Proof.KRead.lean ====
module

public import proofs.«01_k».proof.Proof.Step
public import proofs.«01_k».proof.Proof.Spec
public import proofs.«01_k».proof.Proof.Sel
public import Idealize.ShloMosaic.Lib.Pointwise

@[expose] public section
set_option maxRecDepth 16384
noncomputable section
namespace Cert.KernelIdeal.Hand
open Cert.KernelIdeal Cert.KernelIdeal.Gen
open Idealize.ShloMosaic
open Cert.Spec
open scoped BigOperators

/-- What the buffers hold when chunk `c` is computed, in terms of the arrays. -/
structure Inp (A : Args) (c : ℕ) (x0 : Vec Ideal S1x256x1024 .f32) (x1 : Vec Ideal S1x1024 .f32) (x3 : Vec Ideal S8x2304 .f32) (x4 : Vec Ideal S1x2304 .f32)
    (x5 x6 x7 : Vec Ideal S1x32 .f32) (x8 : Vec Ideal S1x2048 .f32) (x10 : Vec Ideal S32x2048 .bf16) (x11 : Vec Ideal S64x4096 .bf16)
    (st : Vec Ideal S128x2048 .f32) (hi : Vec Ideal S8x2304 .f32) (wi : Vec Ideal S4384x1024 .bf16) (wo : Vec Ideal S1024x2048 .bf16) : Prop where
  hc : c < 8
  hx0 : ∀ i e, x0 (ix3 0 i e) = A.x (gr c i) e
  hx1 : ∀ e, x1 (ix2 0 e) = A.nw e
  hwi : ∀ j e, wi (ix2 j e) = A.wi j e
  hcw : ∀ (k : Fin 4) ch, x3 (ix2 ⟨k.val, by omega⟩ ch) = A.cw ch k
  hcb : ∀ ch, x4 (ix2 0 ch) = A.cb ch
  hdtb : ∀ h, x5 (ix2 0 h) = A.dtb h
  hal : ∀ h, x6 (ix2 0 h) = A.al h
  hdd : ∀ h, x7 (ix2 0 h) = A.dd h
  hgw : ∀ j, x8 (ix2 0 j) = A.gw j
  hwo : ∀ e j, wo (ix2 e j) = A.wo e j
  he : ∀ h j, x10 (ix2 h j) = if h = hd j then (1 : EReal) else 0
  he2a : ∀ (h : Fin 32) (j : Fin 2048), x11 (ix2 ⟨h.val, by omega⟩ ⟨j.val, by omega⟩) = if h = hd j then (1 : EReal) else 0
  he2b : ∀ (h : Fin 32) (j : Fin 2048), x11 (ix2 ⟨32 + h.val, by omega⟩ ⟨j.val, by omega⟩) = (0 : EReal)
  he2c : ∀ (h : Fin 32) (j : Fin 2048), x11 (ix2 ⟨h.val, by omega⟩ ⟨2048 + j.val, by omega⟩) = (0 : EReal)
  he2d : ∀ (h : Fin 32) (j : Fin 2048), x11 (ix2 ⟨32 + h.val, by omega⟩ ⟨2048 + j.val, by omega⟩) = if h = hd j then (1 : EReal) else 0
  hhi : ∀ (r : Fin 3) ch, hi (ix2 ⟨5 + r.val, by omega⟩ ch) = A.tap (256 * c + r.val) ch
  hst : ∀ n j, st (ix2 n j) = A.kst c n j

/-- Column `p` of head `h` is of head `h`. -/
theorem hd_mk (h : Fin 32) (p : Fin 64) (q : 64 * h.val + p.val < 2048) : hd ⟨64 * h.val + p.val, q⟩ = h := by
  ext; show (64 * h.val + p.val) / 64 = h.val; omega

section
variable {A : Args} {c : ℕ} {x0 : Vec Ideal S1x256x1024 .f32} {x1 : Vec Ideal S1x1024 .f32} {x3 : Vec Ideal S8x2304 .f32} {x4 : Vec Ideal S1x2304 .f32}
    {x5 x6 x7 : Vec Ideal S1x32 .f32} {x8 : Vec Ideal S1x2048 .f32} {x10 : Vec Ideal S32x2048 .bf16} {x11 : Vec Ideal S64x4096 .bf16}
    {st : Vec Ideal S128x2048 .f32} {hi : Vec Ideal S8x2304 .f32} {wi : Vec Ideal S4384x1024 .bf16} {wo : Vec Ideal S1024x2048 .bf16}
    (H : Inp A c x0 x1 x3 x4 x5 x6 x7 x8 x10 x11 st hi wi wo)
include H

/-- The in-projection of a row. -/
theorem r7 (i : Fin 256) (j : Fin 4384) : k0_pay7 x0 x1 wi (ix2 i j) = A.zx (gr c i) j := by
  pointwise [k0_pay7, k0_pay6]
  simp only [H.hx0, H.hx1, H.hwi]
  rfl

/-- A row of the history and the in-projection, one above the other. -/
theorem rTap (m : ℕ) (h5 : 5 ≤ m) (hm : m < 264) (ch : Fin 2304) :
    (if h : m < 8 then hi (ix2 ⟨m, h⟩ ch) else k0_pay7 x0 x1 wi (ix2 ⟨m - 8, by omega⟩ ⟨2048 + ch.val, by omega⟩)) = A.tap (256 * c + (m - 5)) ch := by
  have hc := H.hc
  by_cases h : m < 8
  · rw [dif_pos h]
    have := H.hhi ⟨m - 5, by omega⟩ ch
    rw [← this]
    congr 2
    ext; show m = 5 + (m - 5); omega
  · rw [dif_neg h, r7 H, Args.tap, if_neg (by omega), Args.raw]
    congr 1
    ext; show (256 * c + (m - 8)) % 2048 = (256 * c + (m - 5) - 3) % 2048
    congr 1; omega

/-- The number of row `i` of chunk `c`. -/
theorem gr_val (i : Fin 256) : (gr c i).val = 256 * c + i.val := by
  have := H.hc; have := i.isLt
  exact Nat.mod_eq_of_lt (by omega)

/-- The convolved and activated row. -/
theorem r16 (i : Fin 256) (ch : Fin 2304) :
    k0_pay16 (k0_pay11 x0 x1 wi hi) (k0_pay12 x3) (k0_pay13 x0 x1 wi hi x3) (k0_pay14 x0 x1 wi hi) (k0_pay15 x3) x4 (ix2 i ch) = A.act (gr c i) ch := by
  pointwise [k0_pay16, k0_pay11, k0_pay12, k0_pay13, k0_pay14, k0_pay15, k0_pay9]
  have hg := gr_val H i
  have e0 := rTap H (5 + i.val) (by omega) (by omega) ch
  have e1 := rTap H (6 + i.val) (by omega) (by omega) ch
  have e2 := rTap H (7 + i.val) (by omega) (by omega) ch
  have e3 := rTap H (8 + i.val) (by omega) (by omega) ch
  simp only [e0, e1, e2]
  simp only [r7 H]
  have k0 : x3 (ix2 0 ch) = A.cw ch 0 := H.hcw 0 ch
  have k1 : x3 (ix2 1 ch) = A.cw ch 1 := H.hcw 1 ch
  have k2 : x3 (ix2 2 ch) = A.cw ch 2 := H.hcw 2 ch
  have k3 : x3 (ix2 3 ch) = A.cw ch 3 := H.hcw 3 ch
  rw [dif_neg (by omega)] at e3
  have e3' : A.zx (gr c i) ⟨2048 + ch.val, by omega⟩ = A.tap (256 * c + (8 + i.val - 5)) ch := by
    rw [← e3, ← r7 H]; congr 2; ext; show i.val = 8 + i.val - 8; omega
  rw [e3', k0, k1, k2, k3, H.hcb]
  show silu _ = silu _
  congr 1
  unfold Args.cv
  rw [hg, show 256 * c + (5 + i.val - 5) = 256 * c + i.val by omega, show 256 * c + (6 + i.val - 5) = 256 * c + i.val + 1 by omega,
    show 256 * c + (7 + i.val - 5) = 256 * c + i.val + 2 by omega, show 256 * c + (8 + i.val - 5) = 256 * c + i.val + 3 by omega]

/-- The row of x. -/
theorem r18 (i : Fin 256) (j : Fin 2048) : sXs x0 x1 x3 x4 hi wi (ix2 i j) = A.X c i j := by
  pointwise [sXs, k0_pay18]
  rw [r16 H]; rfl
/-- The row of B. -/
theorem r19 (i : Fin 256) (n : Fin 128) : sB x0 x1 x3 x4 hi wi (ix2 i n) = A.B c i n := by
  pointwise [sB, k0_pay19]
  rw [r16 H]; rfl
/-- The row of C. -/
theorem r20 (i : Fin 256) (n : Fin 128) : sC x0 x1 x3 x4 hi wi (ix2 i n) = A.C c i n := by
  pointwise [sC, k0_pay20]
  rw [r16 H]; rfl

/-- dt. -/
theorem r26 (i : Fin 256) (h : Fin 32) : k0_pay26 (sDt x0 x1 x5 wi) k0_pay25 (ix2 i h) = A.dt c i h := by
  have hp : sDt x0 x1 x5 wi (ix2 i h) = A.dtr c i h := by
    pointwise [sDt, k0_pay24, k0_pay10]
    simp only [r7 H, H.hdtb]
    rfl
  pointwise [k0_pay26, k0_pay25]
  rw [hp]
  rfl
/-- The running sum of the decay's exponents. -/
theorem r27 (i : Fin 256) (h : Fin 32) : k0_pay27 k0_pay22 (sDt x0 x1 x5 wi) k0_pay25 x6 (ix2 i h) = A.ka c i h := by
  pointwise [k0_pay27, k0_pay22, k0_pay21]
  simp only [r26 H, H.hal, sel_sge _ _ (Fin.isLt _) (Fin.isLt _)]
  rfl
/-- The running sum, transposed. -/
theorem r28 (i : Fin 256) (h : Fin 32) : k0_pay28 k0_pay22 (sDt x0 x1 x5 wi) k0_pay25 x6 (ix2 h i) = A.ka c i h := by
  pointwise [k0_pay28]
  exact r27 H i h
/-- dt, transposed. -/
theorem r29 (i : Fin 256) (h : Fin 32) : k0_pay29 (sDt x0 x1 x5 wi) k0_pay25 (ix2 h i) = A.dt c i h := by
  pointwise [k0_pay29]
  exact r26 H i h
/-- The factor of a row in the state, spread over its head's columns. -/
theorem r32 (i : Fin 256) (j : Fin 2048) : k0_pay32 k0_pay22 (sDt x0 x1 x5 wi) k0_pay25 x6 x11 (ix2 i j)
    = A.dt c i (hd j) * Ideal.exp (A.ka c 255 (hd j) - A.ka c i (hd j)) := by
  pointwise [k0_pay32, k0_pay31, k0_pay30]
  simp only [r26 H, r27 H, H.he2a, H.he2b, mul_ite, mul_one, mul_zero, Finset.sum_ite_eq', Finset.mem_univ, if_true, Finset.sum_const_zero, add_zero]
/-- The decay from the chunk's start, spread over its head's columns. -/
theorem r33 (i : Fin 256) (j : Fin 2048) : k0_pay33 k0_pay22 (sDt x0 x1 x5 wi) k0_pay25 x6 x11 (ix2 i j) = Ideal.exp (A.ka c i (hd j)) := by
  pointwise [k0_pay33, k0_pay31, k0_pay30]
  simp only [r26 H, r27 H, H.he2c, H.he2d, mul_ite, mul_one, mul_zero, Finset.sum_ite_eq', Finset.mem_univ, if_true, Finset.sum_const_zero, zero_add]
/-- The decay over the whole chunk, spread over its head's columns. -/
theorem r34 (j : Fin 2048) : k0_pay34 k0_pay22 (sDt x0 x1 x5 wi) k0_pay25 x6 x10 (ix2 0 j) = Ideal.exp (A.ka c 255 (hd j)) := by
  pointwise [k0_pay34, k0_pay30]
  simp only [r26 H, r27 H, H.he, mul_ite, mul_one, mul_zero, Finset.sum_ite_eq', Finset.mem_univ, if_true, Finset.sum_const_zero, zero_add]
/-- The scores, zero above the diagonal. -/
theorem r37 (i s : Fin 256) :
    k0_pay37 k0_pay21 (k0_pay35 (sB x0 x1 x3 x4 hi wi)) (k0_pay36 (sC x0 x1 x3 x4 hi wi)) (constant S256x256 .f32 0x00000000#32) (ix2 i s) = A.cbm c i s := by
  pointwise [k0_pay37, k0_pay21, k0_pay35, k0_pay36]
  simp only [r19 H, r20 H, sel_sge _ _ (Fin.isLt _) (Fin.isLt _)]
  rfl
/-- C times the state before the chunk. -/
theorem r39 (i : Fin 256) (j : Fin 2048) : k0_pay39 (k0_pay36 (sC x0 x1 x3 x4 hi wi)) st (ix2 i j) = ∑ n, A.C c i n * A.kst c n j := by
  pointwise [k0_pay39, k0_pay36]
  simp only [r20 H, H.hst]
/-- The state after chunk `c`. -/
theorem rState (n : Fin 128) (j : Fin 2048) : stepState x0 x1 x3 x4 x5 x6 x10 x11 st hi wi (ix2 n j) = A.kst (c + 1) n j := by
  pointwise [stepState, k0_pay40, k0_pay35]
  simp only [r18 H, r19 H, r32 H, r34 H, H.hst]
  rfl
/-- The rows of chunk `c` kept for the next. -/
theorem rHist (r : Fin 3) (ch : Fin 2304) : k0_pay17 (k0_pay9 x0 x1 wi) (ix2 r ch) = A.tap (256 * (c + 1) + r.val) ch := by
  pointwise [k0_pay17, k0_pay9]
  have hc := H.hc
  rw [r7 H, Args.tap, if_neg (by omega), Args.raw]
  congr 1
  ext; show (256 * c + (253 + r.val)) % 2048 = (256 * (c + 1) + r.val - 3) % 2048
  congr 1; omega

/-- A head's rows of the first half: scores of that half times x. -/
theorem headTop_read (h : Fin 32) (r : Fin 128) (p : Fin 64) :
    headTop (k0_pay27 k0_pay22 (sDt x0 x1 x5 wi) k0_pay25 x6) (k0_pay28 k0_pay22 (sDt x0 x1 x5 wi) k0_pay25 x6) (k0_pay29 (sDt x0 x1 x5 wi) k0_pay25)
      (k0_pay41 k0_pay21 (k0_pay35 (sB x0 x1 x3 x4 hi wi)) (k0_pay36 (sC x0 x1 x3 x4 hi wi)) (constant S256x256 .f32 0x00000000#32))
      x7 k0_pay23 (k0_pay38 (sXs x0 x1 x3 x4 hi wi)) h (ix2 r p) = A.kY c ⟨r.val, by omega⟩ ⟨64 * h.val + p.val, by omega⟩ := by
  pointwise [headTop, mApply, mDiag, k0_pay41, k0_pay23, k0_pay38]
  simp only [r18 H, r27 H, r28 H, r29 H, r37 H]
  rw [Args.kY, if_pos (show r.val < 128 from r.isLt)]
  refine Finset.sum_congr rfl fun s _ => ?_
  rw [Args.kT, hd_mk, sel_eq _ _ (by omega) (by omega), H.hdd]
  simp only [Fin.mk.injEq]
/-- A head's rows of the second half: scores of the first half and of the second times x. -/
theorem headBot_read (h : Fin 32) (r : Fin 128) (p : Fin 64) :
    headBot (k0_pay27 k0_pay22 (sDt x0 x1 x5 wi) k0_pay25 x6) (k0_pay28 k0_pay22 (sDt x0 x1 x5 wi) k0_pay25 x6) (k0_pay29 (sDt x0 x1 x5 wi) k0_pay25)
      (k0_pay42 k0_pay21 (k0_pay35 (sB x0 x1 x3 x4 hi wi)) (k0_pay36 (sC x0 x1 x3 x4 hi wi)) (constant S256x256 .f32 0x00000000#32))
      (k0_pay43 k0_pay21 (k0_pay35 (sB x0 x1 x3 x4 hi wi)) (k0_pay36 (sC x0 x1 x3 x4 hi wi)) (constant S256x256 .f32 0x00000000#32))
      x7 k0_pay23 (k0_pay38 (sXs x0 x1 x3 x4 hi wi)) h (ix2 r p) = A.kY c ⟨128 + r.val, by omega⟩ ⟨64 * h.val + p.val, by omega⟩ := by
  pointwise [headBot, mApply, mDiag, mLow, k0_pay42, k0_pay43, k0_pay23, k0_pay38]
  simp only [r18 H, r27 H, r28 H, r29 H, r37 H]
  rw [Args.kY, if_neg (show ¬(128 + r.val < 128) by omega)]
  refine congrArg₂ (· + ·) (Finset.sum_congr rfl fun s _ => ?_) (Finset.sum_congr rfl fun s _ => ?_)
  · rw [Args.kL, hd_mk]
  · rw [Args.kT, hd_mk, sel_eq _ _ (by omega) (by omega), H.hdd]
    simp only [Fin.mk.injEq, Nat.add_left_cancel_iff]

/-- Two heads side by side, the first half. -/
theorem pairTop_read (k : Fin 16) (r q : Fin 128) :
    pairUp (headTop (k0_pay27 k0_pay22 (sDt x0 x1 x5 wi) k0_pay25 x6) (k0_pay28 k0_pay22 (sDt x0 x1 x5 wi) k0_pay25 x6) (k0_pay29 (sDt x0 x1 x5 wi) k0_pay25)
      (k0_pay41 k0_pay21 (k0_pay35 (sB x0 x1 x3 x4 hi wi)) (k0_pay36 (sC x0 x1 x3 x4 hi wi)) (constant S256x256 .f32 0x00000000#32))
      x7 k0_pay23 (k0_pay38 (sXs x0 x1 x3 x4 hi wi))) k (ix2 r q) = A.kY c ⟨r.val, by omega⟩ ⟨128 * k.val + q.val, by omega⟩ := by
  pointwise [pairUp]
  simp only [headTop_read H]
  split
  all_goals (congr 2; omega)
/-- Two heads side by side, the second half. -/
theorem pairBot_read (k : Fin 16) (r q : Fin 128) :
    pairUp (headBot (k0_pay27 k0_pay22 (sDt x0 x1 x5 wi) k0_pay25 x6) (k0_pay28 k0_pay22 (sDt x0 x1 x5 wi) k0_pay25 x6) (k0_pay29 (sDt x0 x1 x5 wi) k0_pay25)
      (k0_pay42 k0_pay21 (k0_pay35 (sB x0 x1 x3 x4 hi wi)) (k0_pay36 (sC x0 x1 x3 x4 hi wi)) (constant S256x256 .f32 0x00000000#32))
      (k0_pay43 k0_pay21 (k0_pay35 (sB x0 x1 x3 x4 hi wi)) (k0_pay36 (sC x0 x1 x3 x4 hi wi)) (constant S256x256 .f32 0x00000000#32))
      x7 k0_pay23 (k0_pay38 (sXs x0 x1 x3 x4 hi wi))) k (ix2 r q) = A.kY c ⟨128 + r.val, by omega⟩ ⟨128 * k.val + q.val, by omega⟩ := by
  pointwise [pairUp]
  simp only [headBot_read H]
  split
  all_goals (congr 2; omega)

/-- The part of y that comes from the chunk's own rows. -/
theorem rY (i : Fin 256) (j : Fin 2048) : stepY x0 x1 x3 x4 x5 x6 x7 hi wi (ix2 i j) = A.kY c i j := by
  unfold stepY
  refine (View.canon_apply_of_pieces (fun y : S256x2048.Idx => (A.kY c (y 0) (y 1) : EReal)) _ ?_ (ix2 i j) ?_).trans rfl
  · intro p hp x
    simp only [yPieces, List.mem_flatMap, List.mem_cons, List.not_mem_nil, or_false] at hp
    obtain ⟨k, -, rfl | rfl⟩ := hp
    · obtain ⟨r, q, rfl⟩ : ∃ (r : Fin 128) (q : Fin 128), x = ix2 r q := ⟨x 0, x 1, eq_ix2 x⟩
      refine (pairBot_read H k r q).trans ?_
      congr 1
      · ext; show 128 + r.val = 128 * 1 + 1 * r.val; omega
      · ext; show _ = 128 * k.val + 1 * q.val; simp only; omega
    · obtain ⟨r, q, rfl⟩ : ∃ (r : Fin 128) (q : Fin 128), x = ix2 r q := ⟨x 0, x 1, eq_ix2 x⟩
      refine (pairTop_read H k r q).trans ?_
      congr 1
      · ext; show r.val = 128 * 0 + 1 * r.val; omega
      · ext; show _ = 128 * k.val + 1 * q.val; simp only; omega
  · have hk : ∀ k : Fin 16, k ∈ [15, 14, 13, 12, 11, 10, 9, 8, 7, 6, 5, 4, 3, 2, 1, (0 : Fin 16)] := by decide
    have hi := i.isLt
    have hj := j.isLt
    by_cases h : i.val < 128
    · refine ⟨_, List.mem_flatMap.2 ⟨⟨j.val / 128, by omega⟩, hk _, List.mem_cons_of_mem _ List.mem_cons_self⟩, (?_ : ix2 i j ∈ (Rect.unit _ _ (inbY 0 ⟨j.val / 128, by omega⟩)).set)⟩
      rw [Rect.mem_set_unit]
      intro a
      obtain rfl | rfl : a = (0 : Fin 2) ∨ a = (1 : Fin 2) := (Fin.forall_fin_two (p := fun a => a = 0 ∨ a = 1)).2 ⟨.inl rfl, .inr rfl⟩ a
      · show 128 * 0 ≤ i.val ∧ i.val < 128 * 0 + 128; omega
      · show 128 * (j.val / 128) ≤ j.val ∧ j.val < 128 * (j.val / 128) + 128; omega
    · refine ⟨_, List.mem_flatMap.2 ⟨⟨j.val / 128, by omega⟩, hk _, List.mem_cons_self⟩, (?_ : ix2 i j ∈ (Rect.unit _ _ (inbY 1 ⟨j.val / 128, by omega⟩)).set)⟩
      rw [Rect.mem_set_unit]
      intro a
      obtain rfl | rfl : a = (0 : Fin 2) ∨ a = (1 : Fin 2) := (Fin.forall_fin_two (p := fun a => a = 0 ∨ a = 1)).2 ⟨.inl rfl, .inr rfl⟩ a
      · show 128 * 1 ≤ i.val ∧ i.val < 128 * 1 + 128; omega
      · show 128 * (j.val / 128) ≤ j.val ∧ j.val < 128 * (j.val / 128) + 128; omega

/-- The gated row before the norm. -/
theorem rG (i : Fin 256) (j : Fin 2048) : stepG x0 x1 x3 x4 x5 x6 x7 x11 st hi wi (ix2 i j) = A.kO c i j * silu (A.Z c i j) := by
  pointwise [stepG, k0_pay370, k0_pay8]
  simp only [r7 H, r33 H, r39 H, rY H]
  rfl
/-- The output block of chunk `c`. -/
theorem rOut (i : Fin 256) (e : Fin 1024) :
    stepOut x0 x1 x3 x4 x5 x6 x7 x8 x11 st hi wi wo (ix3 0 i e) = A.kOut c i e := by
  pointwise [stepOut, k0_pay1, k0_pay371, k0_pay6]
  simp only [← stepG.eq_1]
  simp only [rG H, H.hx0, H.hgw, H.hwo]
  rfl
end
end Cert.KernelIdeal.Hand
-- ==== Proof.KHost.lean ====
/-
  What the host hands the kernel: each window's block in terms of the arguments.
-/
module

public import proofs.«01_k».proof.Proof.KRead
public import proofs.«01_k».proof.Proof.Gen.KernelIdeal.Value
public import Idealize.ShloMosaic.Lib.Claim
public import Idealize.ShloMosaic.Lib.Routing.OpsOne
public import Idealize.ShloMosaic.Lib.Routing.OpsSet
public import Idealize.ShloMosaic.Lib.Pipeline.ValueKit

@[expose] public section
set_option maxRecDepth 16384
set_option maxHeartbeats 1600000
noncomputable section
namespace Cert.KernelIdeal.Hand
open Cert.KernelIdeal Cert.KernelIdeal.Gen
open Idealize.ShloMosaic Idealize.ShloMosaic.TcCoe
open Cert.Spec

/-- The block of each window at a grid step: input 0 moves with the step, the others stay. -/
theorem idxs : ∀ t : Fin cfg0.N, win0_0.index t = ![t.val / 8, t.val % 8, 0] ∧ win0_1.index t = ![0, 0] ∧ win0_2.index t = ![0, 0]
   ∧ win0_3.index t = ![0, 0] ∧ win0_4.index t = ![0, 0] ∧ win0_5.index t = ![0, 0] ∧ win0_6.index t = ![0, 0] ∧ win0_7.index t = ![0, 0]
   ∧ win0_8.index t = ![0, 0] ∧ win0_9.index t = ![0, 0] ∧ win0_10.index t = ![0, 0] ∧ win0_11.index t = ![0, 0] :=
  (by decide +kernel : ∀ t : Fin grid0.N, _)

variable (m : (ℓ : Loc nD τ sig) → Buf (Elt Ideal) ℓ)
/-- Window 0 holds the 256 rows of the chunk of argument 0. -/
theorem b0 (d : Dev nD) (t : Fin cfg0.N) (i : Fin 256) (e : Fin 1024) (h : t.val < 16) : iblk m d 0 t (ix3 0 i e) = m ((d.tc : Thread nD τ).loc main_arg0) (ix3 ⟨t.val / 8, by omega⟩ ⟨256 * (t.val % 8) + i.val, by omega⟩ e) := by
  blk_ext [iblk, V, idxs t]
/-- Window 2 holds argument 2. -/
theorem b2 (d : Dev nD) (t : Fin cfg0.N) (j : Fin 4384) (e : Fin 1024) : iblk m d 2 t (ix2 j e) = m ((d.tc : Thread nD τ).loc main_arg2) (ix2 j e) := by
  blk_ext [iblk, V, idxs t]

/-- The block of window 11 is the whole array. -/
theorem wr11 (t : Fin cfg0.N) (A : S64x4096.Idx → EReal) (h : Fin 64) (j : Fin 4096) :
    ((cfg0.win 11).blk t).view.read (Elt Ideal) (A : Buf (Elt Ideal) (((0 : Dev nD).tc : Thread nD τ).loc main_v21)) (ix2 h j) = A (ix2 h j) := by
  blk_ext [idxs t]
/-- Window 1 holds argument 1 as one row. -/
theorem b1 (d : Dev nD) (t : Fin cfg0.N) (e : Fin 1024) : iblk m d 1 t (ix2 0 e) = m ((d.tc : Thread nD τ).loc main_arg1) (ix1 e) := by
  have h0 : ∀ A : S1x1024.Idx → EReal, ((cfg0.win 1).blk t).view.read (Elt Ideal) (A : Buf (Elt Ideal) ((d.tc : Thread nD τ).loc main_v22)) (ix2 0 e) = A (ix2 0 e) := fun A => by
    blk_ext [idxs t]
  have h : iblk m d 1 t (ix2 0 e) = V m d main_v22 (ix2 0 e) := h0 (V m d main_v22)
  have h2 : V m d main_v22 = shapeCast S1x1024 (m ((d.tc : Thread nD τ).loc main_arg1)) shapeCasts_S1024_S1x1024 := by
    simp only [V, hostOps0, hostOps0_1, hostOps0_2, List.flatten_cons, List.flatten_nil, List.append_nil, List.cons_append, List.nil_append]
    entry_read
    rfl
  rw [h, h2]
  pointwise
/-- Window 4 holds argument 4 as one row. -/
theorem b4 (d : Dev nD) (t : Fin cfg0.N) (e : Fin 2304) : iblk m d 4 t (ix2 0 e) = m ((d.tc : Thread nD τ).loc main_arg4) (ix1 e) := by
  have h0 : ∀ A : S1x2304.Idx → EReal, ((cfg0.win 4).blk t).view.read (Elt Ideal) (A : Buf (Elt Ideal) ((d.tc : Thread nD τ).loc main_v23)) (ix2 0 e) = A (ix2 0 e) := fun A => by
    blk_ext [idxs t]
  have h : iblk m d 4 t (ix2 0 e) = V m d main_v23 (ix2 0 e) := h0 (V m d main_v23)
  have h2 : V m d main_v23 = shapeCast S1x2304 (m ((d.tc : Thread nD τ).loc main_arg4)) shapeCasts_S2304_S1x2304 := by
    simp only [V, hostOps0, hostOps0_1, hostOps0_2, List.flatten_cons, List.flatten_nil, List.append_nil, List.cons_append, List.nil_append]
    entry_read
    rfl
  rw [h, h2]
  pointwise
/-- Window 5 holds argument 5 as one row. -/
theorem b5 (d : Dev nD) (t : Fin cfg0.N) (e : Fin 32) : iblk m d 5 t (ix2 0 e) = m ((d.tc : Thread nD τ).loc main_arg5) (ix1 e) := by
  have h0 : ∀ A : S1x32.Idx → EReal, ((cfg0.win 5).blk t).view.read (Elt Ideal) (A : Buf (Elt Ideal) ((d.tc : Thread nD τ).loc main_v24)) (ix2 0 e) = A (ix2 0 e) := fun A => by
    blk_ext [idxs t]
  have h : iblk m d 5 t (ix2 0 e) = V m d main_v24 (ix2 0 e) := h0 (V m d main_v24)
  have h2 : V m d main_v24 = shapeCast S1x32 (m ((d.tc : Thread nD τ).loc main_arg5)) shapeCasts_S32_S1x32 := by
    simp only [V, hostOps0, hostOps0_1, hostOps0_2, List.flatten_cons, List.flatten_nil, List.append_nil, List.cons_append, List.nil_append]
    entry_read
    rfl
  rw [h, h2]
  pointwise
/-- Window 6 holds argument 6 as one row. -/
theorem b6 (d : Dev nD) (t : Fin cfg0.N) (e : Fin 32) : iblk m d 6 t (ix2 0 e) = m ((d.tc : Thread nD τ).loc main_arg6) (ix1 e) := by
  have h0 : ∀ A : S1x32.Idx → EReal, ((cfg0.win 6).blk t).view.read (Elt Ideal) (A : Buf (Elt Ideal) ((d.tc : Thread nD τ).loc main_v25)) (ix2 0 e) = A (ix2 0 e) := fun A => by
    blk_ext [idxs t]
  have h : iblk m d 6 t (ix2 0 e) = V m d main_v25 (ix2 0 e) := h0 (V m d main_v25)
  have h2 : V m d main_v25 = shapeCast S1x32 (m ((d.tc : Thread nD τ).loc main_arg6)) shapeCasts_S32_S1x32 := by
    simp only [V, hostOps0, hostOps0_1, hostOps0_2, List.flatten_cons, List.flatten_nil, List.append_nil, List.cons_append, List.nil_append]
    entry_read
    rfl
  rw [h, h2]
  pointwise
/-- Window 7 holds argument 7 as one row. -/
theorem b7 (d : Dev nD) (t : Fin cfg0.N) (e : Fin 32) : iblk m d 7 t (ix2 0 e) = m ((d.tc : Thread nD τ).loc main_arg7) (ix1 e) := by
  have h0 : ∀ A : S1x32.Idx → EReal, ((cfg0.win 7).blk t).view.read (Elt Ideal) (A : Buf (Elt Ideal) ((d.tc : Thread nD τ).loc main_v26)) (ix2 0 e) = A (ix2 0 e) := fun A => by
    blk_ext [idxs t]
  have h : iblk m d 7 t (ix2 0 e) = V m d main_v26 (ix2 0 e) := h0 (V m d main_v26)
  have h2 : V m d main_v26 = shapeCast S1x32 (m ((d.tc : Thread nD τ).loc main_arg7)) shapeCasts_S32_S1x32 := by
    simp only [V, hostOps0, hostOps0_1, hostOps0_2, List.flatten_cons, List.flatten_nil, List.append_nil, List.cons_append, List.nil_append]
    entry_read
    rfl
  rw [h, h2]
  pointwise
/-- Window 8 holds argument 8 as one row. -/
theorem b8 (d : Dev nD) (t : Fin cfg0.N) (e : Fin 2048) : iblk m d 8 t (ix2 0 e) = m ((d.tc : Thread nD τ).loc main_arg8) (ix1 e) := by
  have h0 : ∀ A : S1x2048.Idx → EReal, ((cfg0.win 8).blk t).view.read (Elt Ideal) (A : Buf (Elt Ideal) ((d.tc : Thread nD τ).loc main_v27)) (ix2 0 e) = A (ix2 0 e) := fun A => by
    blk_ext [idxs t]
  have h : iblk m d 8 t (ix2 0 e) = V m d main_v27 (ix2 0 e) := h0 (V m d main_v27)
  have h2 : V m d main_v27 = shapeCast S1x2048 (m ((d.tc : Thread nD τ).loc main_arg8)) shapeCasts_S2048_S1x2048 := by
    simp only [V, hostOps0, hostOps0_1, hostOps0_2, List.flatten_cons, List.flatten_nil, List.append_nil, List.cons_append, List.nil_append]
    entry_read
    rfl
  rw [h, h2]
  pointwise

/-- Window 9 holds argument 9. -/
theorem b9 (d : Dev nD) (t : Fin cfg0.N) (j : Fin 1024) (e : Fin 2048) : iblk m d 9 t (ix2 j e) = m ((d.tc : Thread nD τ).loc main_arg9) (ix2 j e) := by
  blk_ext [iblk, V, idxs t]
/-- The block of window 3 is the whole array. -/
theorem wr3 (t : Fin cfg0.N) (A : S8x2304.Idx → EReal) (h : Fin 8) (j : Fin 2304) :
    ((cfg0.win 3).blk t).view.read (Elt Ideal) (A : Buf (Elt Ideal) (((0 : Dev nD).tc : Thread nD τ).loc main_v3)) (ix2 h j) = A (ix2 h j) := by
  blk_ext [idxs t]
/-- The block of window 10 is the whole array. -/
theorem wr10 (t : Fin cfg0.N) (A : S32x2048.Idx → EReal) (h : Fin 32) (j : Fin 2048) :
    ((cfg0.win 10).blk t).view.read (Elt Ideal) (A : Buf (Elt Ideal) (((0 : Dev nD).tc : Thread nD τ).loc main_v12)) (ix2 h j) = A (ix2 h j) := by
  blk_ext [idxs t]

/-- What the host makes for window 3: argument 3 transposed, written over the first rows of zeros. -/
theorem V3 (d : Dev nD) : V m d main_v3 = (Host.scatter scatter_S8x2304_S1_S4x2304_01_n_0_0 (fun x b => b)
      (broadcastInDim S8x2304 ![] bcast_S_S8x2304 (constant (F := Ideal) S_ FTy.f32 0#32))
      (broadcastInDim S1 ![] bcast_S_S1 (constantI S_ 32 0#32))
      (transpose S4x2304 [1, 0] (m ((d.tc : Thread nD τ).loc main_arg3)) transposes_S2304x4_S4x2304_1_0) : Vec Ideal S8x2304 .f32) := by
  simp only [V, hostOps0, hostOps0_1, hostOps0_2, List.flatten_cons, List.flatten_nil, List.append_nil, List.cons_append, List.nil_append]
  entry_read
  rfl
/-- Where an element of that write lands. -/
theorem lands3 (idx : IVec S1 32) (h0 : (idx (ix1 0)).toInt = 0) (p : Fin 4) (q : Fin 2304) (k : Fin 8) (j : Fin 2304) :
    scatter_S8x2304_S1_S4x2304_01_n_0_0.resultIdx? (ix2 p q) idx = some (ix2 k j) ↔ p.val = k.val ∧ q = j := by
  have e0 : scatter_S8x2304_S1_S4x2304_01_n_0_0.start (ix2 p q) idx 0 = (idx (ix1 0)).toInt := by
    refine congrArg (fun i => (idx i).toInt) (?_ : _ = (ix1 (0 : Fin 1) : S1.Idx))
    exact (eq_ix1 (n0 := 1) _).trans (congrArg ix1 (Subsingleton.elim (α := Fin 1) _ _))
  have e1 : scatter_S8x2304_S1_S4x2304_01_n_0_0.start (ix2 p q) idx 1 = 0 := rfl
  have f0 : scatter_S8x2304_S1_S4x2304_01_n_0_0.window (ix2 p q) 0 = p.val := rfl
  have f1 : scatter_S8x2304_S1_S4x2304_01_n_0_0.window (ix2 p q) 1 = q.val := rfl
  refine (Routing.resultIdx?_ix2 (R := 8) (C := 2304) _ _ idx k j).trans ?_
  rw [e0, e1, f0, f1, h0]
  constructor
  · rintro ⟨a, b⟩; exact ⟨by omega, Fin.ext (by omega)⟩
  · rintro ⟨a, rfl⟩; exact ⟨by omega, by omega⟩
/-- Window 3 holds argument 3 transposed in its first four rows. -/
theorem b3 (d : Dev nD) (t : Fin cfg0.N) (k : Fin 4) (j : Fin 2304) : iblk m d 3 t (ix2 ⟨k.val, by omega⟩ j) = m ((d.tc : Thread nD τ).loc main_arg3) (ix2 j k) := by
  refine (wr3 t (V m d main_v3) _ j).trans ?_
  rw [V3]
  refine Routing.scatter_set_hit _ _ _ _ _ _ (fun y hy => ?_) (ix2 k j) ((lands3 _ rfl k j _ j).2 ⟨rfl, rfl⟩)
  obtain ⟨p, q, rfl⟩ : ∃ (p : Fin 4) (q : Fin 2304), y = ix2 p q := ⟨y 0, y 1, eq_ix2 y⟩
  obtain ⟨h1, rfl⟩ := (lands3 _ rfl p q _ j).1 hy
  obtain rfl : p = k := Fin.ext h1
  pointwise

/-- The columns' numbers, as one row. -/
def cols : IVec S1x2048 32 := broadcastInDim S1x2048 ![1] bcast_S2048_S1x2048_1 (iotaInDim S2048 32 0)
/-- A word in every column. -/
def every (w : BitVec 32) : IVec S1x2048 32 := broadcastInDim S1x2048 ![] bcast_S_S1x2048 (constantI S_ 32 w)
/-- The columns' heads, as the host computes them: the quotient by 64, rounded down. -/
def heads : IVec S1x2048 32 :=
  select (andi (cmpi .ne (signi cols) (broadcastInDim S1x2048 ![] bcast_S_S1x2048 (signi (constantI S_ 32 64#32)))) (cmpi .ne (Host.remsi cols (every 64#32)) (every 0#32)))
    (subi (Host.divsi cols (every 64#32)) (every 1#32)) (Host.divsi cols (every 64#32))
/-- The table of which head a column belongs to. -/
def emat : Vec Ideal S32x2048 .bf16 :=
  uitofp (F := Ideal) .bf16 (cmpi .eq (broadcastInDim S32x2048 ![0, 1] bcast_S32x1_S32x2048_0_1 (broadcastInDim S32x1 ![0] bcast_S32_S32x1_0 (iotaInDim S32 32 0)))
    (broadcastInDim S32x2048 ![0, 1] bcast_S1x2048_S32x2048_0_1 heads))
/-- What the host makes for window 10: the head indicator. -/
theorem V12 (d : Dev nD) : V m d main_v12 = emat := by
  simp only [V, hostOps0, hostOps0_1, hostOps0_2, List.flatten_cons, List.flatten_nil, List.append_nil, List.cons_append, List.nil_append]
  entry_read
  rfl
/-- One column's head, in words. -/
def headWord (w : BitVec 32) : BitVec 32 :=
  Scalar.select (IntOp.andi (IntOp.cmpi CmpIPredicate.ne (if w = 0 then (0 : BitVec 32) else if w.msb = true then -1 else 1) (if 64#32 = 0 then (0 : BitVec 32) else if (64#32).msb = true then -1 else 1))
    (IntOp.cmpi CmpIPredicate.ne (IntOp.remsi ArithUnit.host w 64#32) 0#32)) (IntOp.subi (IntOp.divsi ArithUnit.host w 64#32) 1#32) (IntOp.divsi ArithUnit.host w 64#32)
/-- The head of a column, in words, is its number over 64. -/
theorem headWord_ofNat : ∀ j : Fin 2048, headWord (BitVec.ofNat 32 j.val) = BitVec.ofNat 32 (j.val / 64) := by decide +kernel
/-- Two head numbers are equal as words when they are equal. -/
theorem eq_word : ∀ h g : Fin 32, IntOp.cmpi CmpIPredicate.eq (BitVec.ofNat 32 h.val) (BitVec.ofNat 32 g.val) = if h = g then 1#1 else 0#1 := by decide +kernel
/-- The head indicator is one where the column is of the head, zero elsewhere. -/
theorem emat_at (h : Fin 32) (j : Fin 2048) : emat (ix2 h j) = if h = hd j then (1 : EReal) else 0 := by
  pointwise [emat, heads, cols, every]
  have e : IntOp.cmpi CmpIPredicate.eq (BitVec.ofNat 32 h.val) (headWord (BitVec.ofNat 32 j.val)) = if h = hd j then 1#1 else 0#1 := by
    rw [headWord_ofNat]; exact eq_word h (hd j)
  refine (congrArg (FloatOps.uitofp (F := Ideal) FTy.bf16) e).trans ?_
  split
  · show (((1#1 : BitVec 1).toNat : ℝ) : EReal) = 1
    norm_num
  · show (((0#1 : BitVec 1).toNat : ℝ) : EReal) = 0
    norm_num
/-- What the host makes for window 11: the head indicator twice, on the diagonal of a matrix of two by two blocks. -/
theorem V21 (d : Dev nD) : V m d main_v21 = (Host.scatter scatter_S64x4096_S2_S32x2048_01_n_01_0 (fun x b => b)
   (Host.scatter scatter_S64x4096_S2_S32x2048_01_n_01_0 (fun x b => b) (broadcastInDim S64x4096 ![] bcast_S_S64x4096 (constant (F := Ideal) S_ .bf16 0x0000#16))
     (concatenate S2 0 [⟨S1, broadcastInDim S1 ![] bcast_S_S1 (constantI S_ 32 0#32)⟩, ⟨S1, broadcastInDim S1 ![] bcast_S_S1 (constantI S_ 32 0#32)⟩] concatenates_S1_S1_S2_d0) emat)
     (concatenate S2 0 [⟨S1, broadcastInDim S1 ![] bcast_S_S1 (constantI S_ 32 32#32)⟩, ⟨S1, broadcastInDim S1 ![] bcast_S_S1 (constantI S_ 32 2048#32)⟩] concatenates_S1_S1_S2_d0) emat : Vec Ideal S64x4096 .bf16) := by
  simp only [V, hostOps0, hostOps0_1, hostOps0_2, List.flatten_cons, List.flatten_nil, List.append_nil, List.cons_append, List.nil_append]
  entry_read
  rfl
/-- An array with a block of 32 by 2048 written at row `r` and column `c`, at one place. -/
theorem scat21 (x0 : S64x4096.Idx → EReal) (idx : IVec S2 32) (up : S32x2048.Idx → EReal) (r c : ℕ) (hr : (idx (ix1 0)).toInt = r) (hc : (idx (ix1 1)).toInt = c)
    (a : Fin 64) (b : Fin 4096) (g : Fin 32 → Fin 2048 → EReal) (hg : ∀ h j, up (ix2 h j) = g h j) :
    Host.scatter scatter_S64x4096_S2_S32x2048_01_n_01_0 (fun _ b => b) x0 idx up (ix2 a b)
      = if h : (r ≤ a.val ∧ a.val < r + 32) ∧ (c ≤ b.val ∧ b.val < c + 2048) then g ⟨a.val - r, by omega⟩ ⟨b.val - c, by omega⟩ else x0 (ix2 a b) := by
  have lands : ∀ (p : Fin 32) (q : Fin 2048), scatter_S64x4096_S2_S32x2048_01_n_01_0.resultIdx? (ix2 p q) idx = some (ix2 a b) ↔ r + p.val = a.val ∧ c + q.val = b.val := by
    intro p q
    have e0 : scatter_S64x4096_S2_S32x2048_01_n_01_0.start (ix2 p q) idx 0 = (idx (ix1 0)).toInt := Routing.start_pair (R := 64) (C := 4096) _ rfl rfl idx _ 0
    have e1 : scatter_S64x4096_S2_S32x2048_01_n_01_0.start (ix2 p q) idx 1 = (idx (ix1 1)).toInt := Routing.start_pair (R := 64) (C := 4096) _ rfl rfl idx _ 1
    have f0 : scatter_S64x4096_S2_S32x2048_01_n_01_0.window (ix2 p q) 0 = p.val := rfl
    have f1 : scatter_S64x4096_S2_S32x2048_01_n_01_0.window (ix2 p q) 1 = q.val := rfl
    refine (Routing.resultIdx?_ix2 (R := 64) (C := 4096) _ _ idx a b).trans ?_
    rw [e0, e1, f0, f1, hr, hc]
    omega
  by_cases h : (r ≤ a.val ∧ a.val < r + 32) ∧ (c ≤ b.val ∧ b.val < c + 2048)
  · rw [dif_pos h]
    refine Routing.scatter_set_hit _ _ _ _ _ _ (fun y hy => ?_) (ix2 ⟨a.val - r, by omega⟩ ⟨b.val - c, by omega⟩) ((lands _ _).2 ⟨by show r + (a.val - r) = _; omega, by show c + (b.val - c) = _; omega⟩)
    obtain ⟨p, q, rfl⟩ : ∃ (p : Fin 32) (q : Fin 2048), y = ix2 p q := ⟨y 0, y 1, eq_ix2 y⟩
    obtain ⟨h1, h2⟩ := (lands p q).1 hy
    rw [hg]
    congr 1 <;> ext <;> simp only <;> omega
  · rw [dif_neg h]
    refine Routing.scatter_set_miss _ _ _ _ _ fun y hy => h ?_
    obtain ⟨p, q, rfl⟩ : ∃ (p : Fin 32) (q : Fin 2048), y = ix2 p q := ⟨y 0, y 1, eq_ix2 y⟩
    obtain ⟨h1, h2⟩ := (lands p q).1 hy
    omega

/-- The two-block table at a place. -/
theorem b11 (d : Dev nD) (t : Fin cfg0.N) (a : Fin 64) (b : Fin 4096) : iblk m d 11 t (ix2 a b)
    = if h : (32 ≤ a.val ∧ a.val < 32 + 32) ∧ (2048 ≤ b.val ∧ b.val < 2048 + 2048) then (if (⟨a.val - 32, by omega⟩ : Fin 32) = hd ⟨b.val - 2048, by omega⟩ then (1 : EReal) else 0)
      else if h : (0 ≤ a.val ∧ a.val < 0 + 32) ∧ (0 ≤ b.val ∧ b.val < 0 + 2048) then (if (⟨a.val - 0, by omega⟩ : Fin 32) = hd ⟨b.val - 0, by omega⟩ then (1 : EReal) else 0) else 0 := by
  refine (wr11 t (V m d main_v21) a b).trans ?_
  refine (congrFun (V21 m d) _).trans ?_
  refine (scat21 _ _ _ 32 2048 ?_ ?_ a b (fun h j => if h = hd j then (1 : EReal) else 0) emat_at).trans ?_
  · pointwise; rfl
  · pointwise; rfl
  refine dite_congr rfl (fun _ => rfl) fun _ => ?_
  refine (scat21 _ _ _ 0 0 ?_ ?_ a b (fun h j => if h = hd j then (1 : EReal) else 0) emat_at).trans ?_
  · pointwise; rfl
  · pointwise; rfl
  refine dite_congr rfl (fun _ => rfl) fun _ => ?_
  pointwise
end Cert.KernelIdeal.Hand
-- ==== Proof.Arr.lean ====
/-
  One batch element's arrays, cut from the arrays the two programs are launched with.
-/
module

public import proofs.«01_k».proof.Proof.Spec
public import Idealize.ShloMosaic.Lib.Pointwise

@[expose] public section
noncomputable section
namespace Cert.Spec
open Idealize.ShloMosaic

/-- The arrays of batch element `b`. -/
def argsOf (x0 : (⟨3, ![2, 2048, 1024]⟩ : Shape).Idx → EReal) (x1 : (⟨1, ![1024]⟩ : Shape).Idx → EReal) (x2 : (⟨2, ![4384, 1024]⟩ : Shape).Idx → EReal)
    (x3 : (⟨2, ![2304, 4]⟩ : Shape).Idx → EReal) (x4 : (⟨1, ![2304]⟩ : Shape).Idx → EReal) (x5 x6 x7 : (⟨1, ![32]⟩ : Shape).Idx → EReal)
    (x8 : (⟨1, ![2048]⟩ : Shape).Idx → EReal) (x9 : (⟨2, ![1024, 2048]⟩ : Shape).Idx → EReal) (b : Fin 2) : Args where
  x l e := x0 (ix3 b l e)
  nw e := x1 (ix1 e)
  wi j e := x2 (ix2 j e)
  cw ch k := x3 (ix2 ch k)
  cb ch := x4 (ix1 ch)
  dtb h := x5 (ix1 h)
  al h := x6 (ix1 h)
  dd h := x7 (ix1 h)
  gw j := x8 (ix1 j)
  wo e j := x9 (ix2 e j)
end Cert.Spec
-- ==== Proof.KPoints.lean ====
/-
  What the kernel's buffers hold after each grid point, by induction over the points, and from it the array the run ends
  with: row `256 c + i` of batch element `b` is the kernel row of chunk `c`.
-/
module

public import proofs.«01_k».proof.Proof.KHost
public import proofs.«01_k».proof.Proof.Arr

@[expose] public section
set_option maxRecDepth 16384
noncomputable section
namespace Cert.KernelIdeal.Hand
open Cert.KernelIdeal Cert.KernelIdeal.Gen
open Idealize.ShloMosaic Idealize.ShloMosaic.TcCoe
open Cert.Spec

variable (m : (ℓ : Loc nD τ sig) → Buf (Elt Ideal) ℓ)

/-- The arrays of batch element `b` in the launch memory. -/
def kArgs (d : Dev nD) (b : Fin 2) : Args :=
  argsOf (m ((d.tc : Thread nD τ).loc main_arg0)) (m ((d.tc : Thread nD τ).loc main_arg1)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6)) (m ((d.tc : Thread nD τ).loc main_arg7))
    (m ((d.tc : Thread nD τ).loc main_arg8)) (m ((d.tc : Thread nD τ).loc main_arg9)) b

/-- There are sixteen points. -/
theorem lt16 {n : ℕ} (hn : n < cfg0.N) : n < 16 := lt_of_lt_of_eq hn (show cfg0.N = 16 from N_0)

/-- A point's blocks, with scratch as the chunk needs it, are what the chunk is computed from. -/
theorem inp (d : Dev nD) (t : Fin cfg0.N) (b : Fin 2) (hb : b.val = t.val / 8) (c : ℕ) (hc : c = t.val % 8)
    (st : Vec Ideal S128x2048 .f32) (hi : Vec Ideal S8x2304 .f32) (wi : Vec Ideal S4384x1024 .bf16) (wo : Vec Ideal S1024x2048 .bf16)
    (hwi : ∀ j e, wi (ix2 j e) = (kArgs m d b).wi j e) (hwo : ∀ e j, wo (ix2 e j) = (kArgs m d b).wo e j)
    (hhi : ∀ (r : Fin 3) ch, hi (ix2 ⟨5 + r.val, by omega⟩ ch) = (kArgs m d b).tap (256 * c + r.val) ch) (hst : ∀ n j, st (ix2 n j) = (kArgs m d b).kst c n j) :
    Inp (kArgs m d b) c (iblk m d 0 t) (iblk m d 1 t) (iblk m d 3 t) (iblk m d 4 t) (iblk m d 5 t) (iblk m d 6 t) (iblk m d 7 t) (iblk m d 8 t) (iblk m d 10 t) (iblk m d 11 t)
      st hi wi wo where
  hc := by omega
  hx0 i e := by
    have := lt16 t.isLt
    refine (b0 m d t i e this).trans ?_
    refine congrArg (m ((d.tc : Thread nD τ).loc main_arg0)) ?_
    have e1 : (⟨t.val / 8, by omega⟩ : Fin 2) = b := Fin.ext hb.symm
    have e2 : (⟨256 * (t.val % 8) + i.val, by omega⟩ : Fin 2048) = gr c i := Fin.ext (by
      show 256 * (t.val % 8) + i.val = (256 * c + i.val) % 2048
      omega)
    rw [e1, e2]
  hx1 e := b1 m d t e
  hwi := hwi
  hcw k ch := b3 m d t k ch
  hcb ch := b4 m d t ch
  hdtb h := b5 m d t h
  hal h := b6 m d t h
  hdd h := b7 m d t h
  hgw j := b8 m d t j
  hwo := hwo
  he h j := (wr10 t (V m d main_v12) h j).trans ((congrFun (V12 m d) _).trans (emat_at h j))
  he2a h j := by rw [b11, dif_neg (by rintro ⟨h1, -⟩; simp only at h1; omega), dif_pos ⟨by simp only; omega, by simp only; omega⟩]; rfl
  he2b h j := by rw [b11, dif_neg (by rintro ⟨-, h1⟩; simp only at h1; omega), dif_neg (by rintro ⟨h1, -⟩; simp only at h1; omega)]
  he2c h j := by rw [b11, dif_neg (by rintro ⟨h1, -⟩; simp only at h1; omega), dif_neg (by rintro ⟨-, h1⟩; simp only at h1; omega)]
  he2d h j := by
    rw [b11, dif_pos ⟨by simp only; omega, by simp only; omega⟩]
    have e1 : ∀ q, (⟨32 + h.val - 32, q⟩ : Fin 32) = h := fun q => Fin.ext (by simp only; omega)
    have e2 : ∀ q, (⟨2048 + j.val - 2048, q⟩ : Fin 2048) = j := fun q => Fin.ext (by simp only; omega)
    simp only [e1, e2]
  hhi := hhi
  hst := hst

/-- What the buffers hold after a chunk. -/
structure After (A : Args) (c : ℕ) (o : Vec Ideal S1x256x1024 .f32 × Vec Ideal S128x2048 .f32 × Vec Ideal S8x2304 .f32 × Vec Ideal S4384x1024 .bf16 × Vec Ideal S1024x2048 .bf16) : Prop where
  out : ∀ i e, o.1 (ix3 0 i e) = A.kOut c i e
  st : ∀ n j, o.2.1 (ix2 n j) = A.kst (c + 1) n j
  hi : ∀ (r : Fin 3) ch, o.2.2.1 (ix2 ⟨5 + r.val, by omega⟩ ch) = A.tap (256 * (c + 1) + r.val) ch
  wi : ∀ j e, o.2.2.2.1 (ix2 j e) = A.wi j e
  wo : ∀ e j, o.2.2.2.2 (ix2 e j) = A.wo e j

/-- The rows kept, in the buffer they are kept in. -/
theorem hist_emb (r : Fin 3) (ch : Fin 2304) :
    (ix2 ⟨5 + r.val, by omega⟩ ch : S8x2304.Idx) = (Rect.unit (s := S8x2304) ![5, 0] S3x2304.size inb_S8x2304_S3x2304_5_0).emb (ix2 r ch) := by
  funext a
  obtain rfl | rfl : a = (0 : Fin 2) ∨ a = (1 : Fin 2) := (Fin.forall_fin_two (p := fun a => a = 0 ∨ a = 1)).2 ⟨.inl rfl, .inr rfl⟩ a
  · ext; show 5 + r.val = 5 + 1 * r.val; omega
  · ext; show ch.val = 0 + 1 * ch.val; omega

/-- After the first chunk of a batch element. -/
theorem after_first (d : Dev nD) (t : Fin cfg0.N) (h0 : t.val % 8 = 0) (b : Fin 2) (hb : b.val = t.val / 8) : After (kArgs m d b) 0 (outsAt0 m d t.val t.isLt) := by
  rw [outsAt0_A m d t h0]
  have hw : ∀ j e, (k0_pay4 (F := Ideal) (iblk m d 2 t)) (ix2 j e) = (kArgs m d b).wi j e := fun j e => by
    pointwise [k0_pay4]
    exact b2 m d t j e
  have hwo : ∀ j e, (k0_pay5 (F := Ideal) (iblk m d 9 t)) (ix2 j e) = (kArgs m d b).wo j e := fun j e => by
    pointwise [k0_pay5]
    exact b9 m d t j e
  have H := inp m d t b hb 0 h0.symm (k0_pay2 (F := Ideal)) (k0_pay3 (F := Ideal)) (k0_pay4 (iblk m d 2 t)) (k0_pay5 (iblk m d 9 t)) hw hwo
    (fun r ch => by rw [Args.tap, if_pos (by omega)]; pointwise [k0_pay3]) (fun n j => by rw [Args.kst]; pointwise [k0_pay2])
  constructor
  · intro i e
    dsimp only
    rw [outA]; exact rOut H i e
  · intro i e
    dsimp only
    rw [stateA]; exact rState H i e
  · intro r ch
    dsimp only
    rw [hist_emb, histA]; exact rHist H r ch
  · intro j e
    dsimp only
    rw [wA3]; exact hw j e
  · intro j e
    dsimp only
    rw [wA4]; exact hwo j e

/-- After a later chunk, from the one before. -/
theorem after_next (d : Dev nD) (t : Fin cfg0.N) (h0 : ¬ t.val % 8 = 0) (b : Fin 2) (hb : b.val = t.val / 8) (c : ℕ) (hc : c + 1 = t.val % 8)
    (hp : After (kArgs m d b) c (outsAt0 m d (t.val - 1) (Nat.lt_of_le_of_lt (Nat.sub_le _ _) t.isLt))) : After (kArgs m d b) (c + 1) (outsAt0 m d t.val t.isLt) := by
  rw [outsAt0_B m d t h0]
  have H := inp m d t b hb (c + 1) hc _ _ _ _ hp.wi hp.wo hp.hi hp.st
  constructor
  · intro i e
    dsimp only
    rw [outB]; exact rOut H i e
  · intro i e
    dsimp only
    rw [stateB]; exact rState H i e
  · intro r ch
    dsimp only
    rw [hist_emb, histB]; exact rHist H r ch
  · exact hp.wi
  · exact hp.wo

/-- After every point. -/
theorem after (d : Dev nD) : ∀ (n : ℕ) (hn : n < cfg0.N) (b : Fin 2) (_ : b.val = n / 8) (c : ℕ) (_ : c = n % 8), After (kArgs m d b) c (outsAt0 m d n hn) := by
  intro n
  induction n with
  | zero =>
    rintro hn b hb c rfl
    exact after_first m d ⟨0, hn⟩ rfl b hb
  | succ n ih =>
    intro hn b hb c hc
    by_cases h0 : (n + 1) % 8 = 0
    · obtain rfl : c = 0 := by omega
      exact after_first m d ⟨n + 1, hn⟩ h0 b hb
    · obtain ⟨c', rfl⟩ : ∃ c', c = c' + 1 := ⟨c - 1, by omega⟩
      exact after_next m d ⟨n + 1, hn⟩ h0 b hb c' hc (ih (by omega) b (by omega) c' (by omega))

/-- The array the kernel's run ends with, at a place. -/
theorem out_at (d : Dev nD) (b : Fin 2) (c : Fin 8) (i : Fin 256) (e : Fin 1024) :
    Value.G12 m d (ix3 b ⟨256 * c.val + i.val, by omega⟩ e) = (kArgs m d b).kOut c.val i e := by
  have hp : Value.pt12Of (ix3 b ⟨256 * c.val + i.val, by omega⟩ e) = 8 * b.val + c.val := by
    show 8 * (b.val / 1 - 0) + 1 * ((256 * c.val + i.val) / 256 - 0) + 1 * (e.val / 1024 - 0) = _
    omega
  have hl : Value.loc12Of (ix3 b ⟨256 * c.val + i.val, by omega⟩ e) = ix3 0 i e := by
    funext a
    match a with
    | ⟨0, _⟩ => ext; show b.val % 1 = 0; omega
    | ⟨1, _⟩ => ext; show (256 * c.val + i.val) % 256 = i.val; omega
    | ⟨2, _⟩ => ext; show e.val % 1024 = e.val; omega
  have hN : Value.pt12Of (ix3 b ⟨256 * c.val + i.val, by omega⟩ e) < cfg0.N := by
    rw [hp]; exact lt_of_lt_of_eq (by omega) N_0.symm
  refine (dif_pos hN).trans ?_
  rw [← Value.outsAt0_sweep m d _ hN, hl]
  exact (after m d _ hN b (by rw [hp]; omega) c.val (by rw [hp]; omega)).out i e
end Cert.KernelIdeal.Hand
-- ==== Proof.Win.lean ====
/-
  A running sum along the last axis, as the reference writes it: a window sum whose window is the whole axis, padded below.
-/
module

public import Idealize.ShloMosaic.PureOps.Ideal
public import Idealize.ShloMosaic.Lib.Pointwise

@[expose] public section
namespace Cert.Spec
open Idealize.ShloMosaic

/-- Adding a list's images one after another to a start value adds their sum. -/
theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window sum from zero is the sum over the window's indices of the operand's entry, zero in the padding. -/
theorem window_idx {s t u : Shape} (window strides lo hi : Fin s.rank → ℕ) (x : s.Idx → EReal) (init : u.Idx → EReal)
    (h : s.ReduceWindows window strides lo hi t) (hu : 0 < u.numel) (hinit : init (Shape.Idx.first hu) = 0) (j : t.Idx) :
    Host.reduceWindow (fun a b : EReal => a + b) window strides lo hi x init h hu j
      = ∑ y : (⟨s.rank, window⟩ : Shape).Idx,
          if hin : ∀ a, lo a ≤ (j (a.cast h.1.symm)).val * strides a + (y a).val
              ∧ (j (a.cast h.1.symm)).val * strides a + (y a).val - lo a < s.size a
          then x (fun a => ⟨(j (a.cast h.1.symm)).val * strides a + (y a).val - lo a, (hin a).2⟩) else 0 := by
  unfold Host.reduceWindow
  rw [hinit, ← Equiv.sum_comp (⟨s.rank, window⟩ : Shape).rowMajor.symm, Fin.sum_univ_def]
  refine (foldl_sum _ _ _).trans (Eq.trans (zero_add _) ?_)
  refine congrArg List.sum (List.map_congr_left fun n _ => ?_)
  exact dite_congr rfl (fun _ => rfl) (fun _ => rfl)

/-- A window of a whole axis that ends at `j` covers the entries up to `j`. -/
theorem window_sum (N M : ℕ) (hM : M + 1 = N) (X : Fin N → EReal) (j : Fin N) :
    (∑ w : Fin N, if h : M ≤ j.val + w.val ∧ j.val + w.val - M < N then X ⟨j.val + w.val - M, h.2⟩ else 0)
      = ∑ s : Fin N, if s ≤ j then X s else 0 := by
  have e : ∀ w : Fin N, (if h : M ≤ j.val + w.val ∧ j.val + w.val - M < N then X ⟨j.val + w.val - M, h.2⟩ else 0)
      = if M ≤ j.val + w.val then X ⟨j.val + w.val - M, by omega⟩ else 0 := fun w => by
    by_cases h : M ≤ j.val + w.val
    · rw [dif_pos ⟨h, by omega⟩, if_pos h]
    · rw [dif_neg (fun q => h q.1), if_neg h]
  rw [Finset.sum_congr rfl fun w _ => e w, ← Finset.sum_filter, ← Finset.sum_filter]
  refine Finset.sum_bij' (fun w _ => ⟨j.val + w.val - M, by omega⟩)
    (fun s hs => ⟨s.val + M - j.val, by have := (Finset.mem_filter.1 hs).2; have := Fin.le_def.1 this; omega⟩) ?_ ?_ ?_ ?_ ?_
  · intro w hw
    have := (Finset.mem_filter.1 hw).2
    refine Finset.mem_filter.2 ⟨Finset.mem_univ _, Fin.le_def.2 ?_⟩
    show j.val + w.val - M ≤ j.val
    omega
  · intro s hs
    have := Fin.le_def.1 (Finset.mem_filter.1 hs).2
    refine Finset.mem_filter.2 ⟨Finset.mem_univ _, ?_⟩
    show M ≤ j.val + (s.val + M - j.val)
    omega
  · intro w hw
    have := (Finset.mem_filter.1 hw).2
    refine Fin.ext ?_
    show j.val + w.val - M + M - j.val = w.val
    omega
  · intro s hs
    have := Fin.le_def.1 (Finset.mem_filter.1 hs).2
    refine Fin.ext ?_
    show j.val + (s.val + M - j.val) - M = s.val
    omega
  · intro w hw; rfl

/-- The indices of a window that is one long in all axes but the last of four. -/
def win4 (N : ℕ) : (⟨4, ![1, 1, 1, N]⟩ : Shape).Idx ≃ Fin N where
  toFun y := y 3
  invFun w := ix4 0 0 0 w
  left_inv y := by
    refine funext fun a => Fin.ext ?_
    match a with
    | ⟨0, _⟩ => exact (Nat.lt_one_iff.1 (y 0).isLt).symm
    | ⟨1, _⟩ => exact (Nat.lt_one_iff.1 (y 1).isLt).symm
    | ⟨2, _⟩ => exact (Nat.lt_one_iff.1 (y 2).isLt).symm
    | ⟨3, _⟩ => rfl
  right_inv w := rfl

/-- The running sum along the last of four axes. -/
theorem cumsum4 (P Q R N M : ℕ) (hM : M + 1 = N) (x : (⟨4, ![P, Q, R, N]⟩ : Shape).Idx → EReal)
    (init : (⟨0, ![]⟩ : Shape).Idx → EReal) (hinit : ∀ i, init i = 0)
    (h : (⟨4, ![P, Q, R, N]⟩ : Shape).ReduceWindows ![1, 1, 1, N] ![1, 1, 1, 1] ![0, 0, 0, M] ![0, 0, 0, 0] ⟨4, ![P, Q, R, N]⟩)
    (hu : 0 < (⟨0, ![]⟩ : Shape).numel) (p : Fin P) (q : Fin Q) (r : Fin R) (j : Fin N) :
    Host.reduceWindowAdd (F := Ideal) (φ := .f32) ![1, 1, 1, N] ![1, 1, 1, 1] ![0, 0, 0, M] ![0, 0, 0, 0] x init h hu (ix4 p q r j)
      = ∑ s : Fin N, if s ≤ j then x (ix4 p q r s) else 0 := by
  change Host.reduceWindow (u := ⟨0, ![]⟩) (fun a b : EReal => a + b) _ _ _ _ x (fun _ => init (Shape.Idx.first hu)) h hu _ = _
  rw [window_idx _ _ _ _ _ (fun _ => init (Shape.Idx.first hu)) h hu (hinit _)]
  rw [← Equiv.sum_comp (win4 N).symm, ← window_sum N M hM]
  refine Finset.sum_congr rfl fun w _ => ?_
  refine dite_congr (propext ⟨fun hin => ?_, fun hin a => ?_⟩) (fun hin => ?_) (fun _ => rfl)
  · have h3 := hin 3
    change M ≤ j.val * 1 + w.val ∧ j.val * 1 + w.val - M < N at h3
    omega
  · match a with
    | ⟨0, _⟩ => exact ⟨Nat.zero_le _, by show p.val * 1 + 0 - 0 < P; omega⟩
    | ⟨1, _⟩ => exact ⟨Nat.zero_le _, by show q.val * 1 + 0 - 0 < Q; omega⟩
    | ⟨2, _⟩ => exact ⟨Nat.zero_le _, by show r.val * 1 + 0 - 0 < R; omega⟩
    | ⟨3, _⟩ => show M ≤ j.val * 1 + w.val ∧ j.val * 1 + w.val - M < N; omega
  · refine congrArg x (funext fun a => Fin.ext ?_)
    match a with
    | ⟨0, _⟩ => show p.val * 1 + 0 - 0 = p.val; omega
    | ⟨1, _⟩ => show q.val * 1 + 0 - 0 = q.val; omega
    | ⟨2, _⟩ => show r.val * 1 + 0 - 0 = r.val; omega
    | ⟨3, _⟩ => show j.val * 1 + w.val - M = j.val + w.val - M; omega

/-- The indices of a window that is one long in all axes but the last of three. -/
def win3 (N : ℕ) : (⟨3, ![1, 1, N]⟩ : Shape).Idx ≃ Fin N where
  toFun y := y 2
  invFun w := ix3 0 0 w
  left_inv y := by
    refine funext fun a => Fin.ext ?_
    match a with
    | ⟨0, _⟩ => exact (Nat.lt_one_iff.1 (y 0).isLt).symm
    | ⟨1, _⟩ => exact (Nat.lt_one_iff.1 (y 1).isLt).symm
    | ⟨2, _⟩ => rfl
  right_inv w := rfl

/-- The running sum along the last of three axes. -/
theorem cumsum3 (P Q N M : ℕ) (hM : M + 1 = N) (x : (⟨3, ![P, Q, N]⟩ : Shape).Idx → EReal)
    (init : (⟨0, ![]⟩ : Shape).Idx → EReal) (hinit : ∀ i, init i = 0)
    (h : (⟨3, ![P, Q, N]⟩ : Shape).ReduceWindows ![1, 1, N] ![1, 1, 1] ![0, 0, M] ![0, 0, 0] ⟨3, ![P, Q, N]⟩)
    (hu : 0 < (⟨0, ![]⟩ : Shape).numel) (p : Fin P) (q : Fin Q) (j : Fin N) :
    Host.reduceWindowAdd (F := Ideal) (φ := .f32) ![1, 1, N] ![1, 1, 1] ![0, 0, M] ![0, 0, 0] x init h hu (ix3 p q j)
      = ∑ s : Fin N, if s ≤ j then x (ix3 p q s) else 0 := by
  change Host.reduceWindow (u := ⟨0, ![]⟩) (fun a b : EReal => a + b) _ _ _ _ x (fun _ => init (Shape.Idx.first hu)) h hu _ = _
  rw [window_idx _ _ _ _ _ (fun _ => init (Shape.Idx.first hu)) h hu (hinit _)]
  rw [← Equiv.sum_comp (win3 N).symm, ← window_sum N M hM]
  refine Finset.sum_congr rfl fun w _ => ?_
  refine dite_congr (propext ⟨fun hin => ?_, fun hin a => ?_⟩) (fun hin => ?_) (fun _ => rfl)
  · have h3 := hin 2
    change M ≤ j.val * 1 + w.val ∧ j.val * 1 + w.val - M < N at h3
    omega
  · match a with
    | ⟨0, _⟩ => exact ⟨Nat.zero_le _, by show p.val * 1 + 0 - 0 < P; omega⟩
    | ⟨1, _⟩ => exact ⟨Nat.zero_le _, by show q.val * 1 + 0 - 0 < Q; omega⟩
    | ⟨2, _⟩ => show M ≤ j.val * 1 + w.val ∧ j.val * 1 + w.val - M < N; omega
  · refine congrArg x (funext fun a => Fin.ext ?_)
    match a with
    | ⟨0, _⟩ => show p.val * 1 + 0 - 0 = p.val; omega
    | ⟨1, _⟩ => show q.val * 1 + 0 - 0 = q.val; omega
    | ⟨2, _⟩ => show j.val * 1 + w.val - M = j.val + w.val - M; omega
end Cert.Spec
-- ==== Proof.RRead.lean ====
/-
  The reference's arrays read at an index, stage by stage, as the reference side of the specification: from the in-projection
  to the result.
-/
module

public import proofs.«01_k».proof.Proof.Arr
public import proofs.«01_k».proof.Proof.Win
public import proofs.«01_k».proof.Proof.Sel
public import proofs.«01_k».proof.Proof.Gen.ReferenceIdeal.Read
public import Idealize.ShloMosaic.Lib.Pointwise

@[expose] public section
set_option maxRecDepth 16384
set_option maxHeartbeats 400000
noncomputable section
namespace Cert.ReferenceIdeal.Hand
open Cert.ReferenceIdeal Cert.ReferenceIdeal.Gen Cert.ReferenceIdeal.Read
open Idealize.ShloMosaic Cert.Spec

variable (x0 : (⟨3, ![2, 2048, 1024]⟩ : Shape).Idx → EReal) (x1 : (⟨1, ![1024]⟩ : Shape).Idx → EReal) (x2 : (⟨2, ![4384, 1024]⟩ : Shape).Idx → EReal)
    (x3 : (⟨2, ![2304, 4]⟩ : Shape).Idx → EReal) (x4 : (⟨1, ![2304]⟩ : Shape).Idx → EReal) (x5 x6 x7 : (⟨1, ![32]⟩ : Shape).Idx → EReal)
    (x8 : (⟨1, ![2048]⟩ : Shape).Idx → EReal) (x9 : (⟨2, ![1024, 2048]⟩ : Shape).Idx → EReal)

/-- Row `256 c + i` as a row of chunk `c`. -/
theorem gr_eq (c : Fin 8) (i : Fin 256) (h : c.val * 256 + i.val < 2048) : (⟨c.val * 256 + i.val, h⟩ : Fin 2048) = gr c.val i :=
  Fin.ext (by show c.val * 256 + i.val = (256 * c.val + i.val) % 2048; omega)

/-- Column `p` of head `h`. -/
def col (h : Fin 32) (p : Fin 64) : Fin 2048 := ⟨h.val * 64 + p.val, by omega⟩

/-- A column of head `h` is of head `h`. -/
theorem hd_col (h : Fin 32) (p : Fin 64) : hd (col h p) = h := Fin.ext (by show (h.val * 64 + p.val) / 64 = h.val; omega)

/-- The float of the integer zero. -/
theorem sitofp_zero : FloatOps.sitofp (F := Ideal) FTy.f32 (0#32) = (0 : EReal) := by
  show (((0#32).toInt : ℝ) : EReal) = 0
  simp

/-- The filler of the masked positions is minus infinity. -/
theorem neg_inf : (id (constant (F := Ideal) S_ FTy.f32 4286578688#32) : S_.Idx → EReal) ix0 = ⊥ := by
  show Ideal.ofBits FTy.f32 4286578688#32 = ⊥
  simp [Ideal.ofBits, Ideal.ieee]

/-- A lower triangle's entry, used to select. -/
theorem sel_tril (i s : ℕ) (hi : i < 256) (hs : s < 256) (x y : EReal) :
    Scalar.select (Scalar.select (IntOp.cmpi CmpIPredicate.sge (IntOp.addi (BitVec.ofNat 32 i) 0#32) (BitVec.ofNat 32 s)) 1#1 0#1) x y
      = if s ≤ i then x else y := by
  rw [show IntOp.addi (BitVec.ofNat 32 i) 0#32 = BitVec.ofNat 32 i from BitVec.add_zero _, sel_sge i s hi hs]
  by_cases h : s ≤ i <;> simp [h, Scalar.select]

/-- The in-projection. -/
theorem r13 (b : Fin 2) (l : Fin 2048) (j : Fin 4384) :
    val_main_v13 (F := Ideal) x0 x1 x2 (ix3 b l j)
      = (argsOf x0 x1 x2 x3 x4 x5 x6 x7 x8 x9 b).zx l j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The padded columns. -/
theorem r17 (b : Fin 2) (n : Fin 2051) (ch : Fin 2304) :
    val_main_v17 (F := Ideal) x0 x1 x2 (ix3 b n ch)
      = (argsOf x0 x1 x2 x3 x4 x5 x6 x7 x8 x9 b).tap n.val ch := by
  pointwise [val_main_v17, val_main_call0_v0, val_main_v15, val_main_c]
  unfold Args.tap
  by_cases h : n.val < 3
  · rw [dif_neg (by omega), if_pos h]
    exact sitofp_zero
  · rw [dif_pos ⟨by omega, by omega⟩, if_neg h, r13 x0 x1 x2 x3 x4 x5 x6 x7 x8 x9]
    refine congrArg (fun l => (argsOf x0 x1 x2 x3 x4 x5 x6 x7 x8 x9 b).zx l _) (Fin.ext ?_)
    show n.val - 3 = (n.val - 3) % 2048
    omega

/-- The convolved and gated columns. -/
theorem r56 (b : Fin 2) (l : Fin 2048) (ch : Fin 2304) :
    val_main_v56 (F := Ideal) x0 x1 x2 x3 x4 (ix3 b l ch)
      = (argsOf x0 x1 x2 x3 x4 x5 x6 x7 x8 x9 b).act l ch := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  simp only [r17 x0 x1 x2 x3 x4 x5 x6 x7 x8 x9]
  rw [Nat.add_comm 1 l.val, Nat.add_comm 2 l.val, Nat.add_comm 3 l.val]
  unfold Args.act silu
  rw [zero_sub]
  rfl

/-- dt. -/
theorem r63 (b : Fin 2) (c : ℕ) (i : Fin 256) (h : Fin 32) :
    val_main_v63 (F := Ideal) x0 x1 x2 x5 (ix3 b (gr c i) h)
      = (argsOf x0 x1 x2 x3 x4 x5 x6 x7 x8 x9 b).dt c i h := by
  pointwise [val_main_v63, val_main_v62, val_main_v61, val_main_v60, val_main_v16, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11]
  rw [if_neg (fun q => q rfl), r13 x0 x1 x2 x3 x4 x5 x6 x7 x8 x9]
  unfold Args.dt
  rw [zero_sub]
  rfl

/-- The decay's exponent. -/
theorem r75 (b : Fin 2) (c : Fin 8) (i : Fin 256) (h : Fin 32) :
    val_main_v75 (F := Ideal) x0 x1 x2 x5 x6 (ix4 b h c i)
      = (argsOf x0 x1 x2 x3 x4 x5 x6 x7 x8 x9 b).dA c.val i h := by
  pointwise [val_main_v75, val_main_v74, val_main_v72, val_main_v71, val_main_v70, val_main_v65, val_main_v64]
  rw [gr_eq, r63 x0 x1 x2 x3 x4 x5 x6 x7 x8 x9]
  unfold Args.dA
  rw [zero_sub]
  rfl

/-- x times dt. -/
theorem r73 (b : Fin 2) (c : Fin 8) (i : Fin 256) (h : Fin 32) (p : Fin 64) :
    val_main_v73 (F := Ideal) x0 x1 x2 x3 x4 x5 (ix5 b c i h p)
      = (argsOf x0 x1 x2 x3 x4 x5 x6 x7 x8 x9 b).X c.val i (col h p) * (argsOf x0 x1 x2 x3 x4 x5 x6 x7 x8 x9 b).dt c.val i h := by
  pointwise [val_main_v73]
  rw [gr_eq, val_main_v69_apply]
  pointwise [val_main_v68, val_main_v67, val_main_v66, val_main_v57]
  rw [r56 x0 x1 x2 x3 x4 x5 x6 x7 x8 x9, r63 x0 x1 x2 x3 x4 x5 x6 x7 x8 x9]
  rfl

/-- B. -/
theorem r76 (b : Fin 2) (c : Fin 8) (i : Fin 256) (n : Fin 128) :
    val_main_v76 (F := Ideal) x0 x1 x2 x3 x4 (ix4 b c i n)
      = (argsOf x0 x1 x2 x3 x4 x5 x6 x7 x8 x9 b).B c.val i n := by
  pointwise [val_main_v76, val_main_v58]
  rw [gr_eq, r56 x0 x1 x2 x3 x4 x5 x6 x7 x8 x9]
  rfl

/-- C. -/
theorem r77 (b : Fin 2) (c : Fin 8) (i : Fin 256) (n : Fin 128) :
    val_main_v77 (F := Ideal) x0 x1 x2 x3 x4 (ix4 b c i n)
      = (argsOf x0 x1 x2 x3 x4 x5 x6 x7 x8 x9 b).C c.val i n := by
  pointwise [val_main_v77, val_main_v59]
  rw [gr_eq, r56 x0 x1 x2 x3 x4 x5 x6 x7 x8 x9]
  rfl

/-- The running sum of the exponents. -/
theorem r78 (b : Fin 2) (c : Fin 8) (i : Fin 256) (h : Fin 32) :
    val_main_v78 (F := Ideal) x0 x1 x2 x5 x6 (ix4 b h c i)
      = (argsOf x0 x1 x2 x3 x4 x5 x6 x7 x8 x9 b).ra c.val i h := by
  unfold val_main_v78
  refine (cumsum4 2 32 8 256 255 rfl _ _ (fun _ => ?_) _ _ b h c i).trans ?_
  · pointwise [val_main_call2_call0_v0, val_main_call2_call0_cst]
  · refine Finset.sum_congr rfl fun s _ => ?_
    rw [r75 x0 x1 x2 x3 x4 x5 x6 x7 x8 x9]

/-- The running sum of the exponents. -/
theorem r79 (b : Fin 2) (c : Fin 8) (i : Fin 256) (h : Fin 32) :
    val_main_v79 (F := Ideal) x0 x1 x2 x5 x6 (ix4 b h c i)
      = (argsOf x0 x1 x2 x3 x4 x5 x6 x7 x8 x9 b).ra c.val i h := by
  unfold val_main_v79
  refine (cumsum4 2 32 8 256 255 rfl _ _ (fun _ => ?_) _ _ b h c i).trans ?_
  · pointwise [val_main_call3_call0_v0, val_main_call3_call0_cst]
  · refine Finset.sum_congr rfl fun s _ => ?_
    rw [r75 x0 x1 x2 x3 x4 x5 x6 x7 x8 x9]

/-- The decay between two rows of a chunk. -/
theorem r88 (b : Fin 2) (c : Fin 8) (i s : Fin 256) (h : Fin 32) :
    val_main_v88 (F := Ideal) x0 x1 x2 x5 x6 (ix5 b h c i s)
      = Ideal.exp (if s ≤ i then (argsOf x0 x1 x2 x3 x4 x5 x6 x7 x8 x9 b).ra c.val i h - (argsOf x0 x1 x2 x3 x4 x5 x6 x7 x8 x9 b).ra c.val s h else ⊥) := by
  pointwise [val_main_v88, val_main_v87, val_main_v86, val_main_v85, val_main_v84, val_main_v83, val_main_v82, val_main_v81, val_main_v80, val_main_c_5, val_main_cst_6, val_main_call4_v0, val_main_call4_v1, val_main_call4_v2, val_main_call4_v3, val_main_call4_v4, val_main_call4_v5, val_main_call4_c, val_main_call4_c_0, val_main_call5_v0, val_main_call5_v1, val_main_call5_v2]
  rw [sel_tril _ _ i.isLt s.isLt, neg_inf, r79 x0 x1 x2 x3 x4 x5 x6 x7 x8 x9, r79 x0 x1 x2 x3 x4 x5 x6 x7 x8 x9]
  rfl

/-- The scores. -/
theorem r89 (b : Fin 2) (c : Fin 8) (i s : Fin 256) :
    val_main_v89 (F := Ideal) x0 x1 x2 x3 x4 (ix4 b c i s)
      = (argsOf x0 x1 x2 x3 x4 x5 x6 x7 x8 x9 b).CB c.val i s := by
  pointwise [val_main_v89]
  simp only [r77 x0 x1 x2 x3 x4 x5 x6 x7 x8 x9, r76 x0 x1 x2 x3 x4 x5 x6 x7 x8 x9]
  rfl

/-- The within-chunk output. -/
theorem r94 (b : Fin 2) (c : Fin 8) (i : Fin 256) (h : Fin 32) (p : Fin 64) :
    val_main_v94 (F := Ideal) x0 x1 x2 x3 x4 x5 x6 (ix5 b c i h p)
      = ∑ s, (argsOf x0 x1 x2 x3 x4 x5 x6 x7 x8 x9 b).X c.val s (col h p) * (argsOf x0 x1 x2 x3 x4 x5 x6 x7 x8 x9 b).dt c.val s h * (Ideal.exp (if s ≤ i then (argsOf x0 x1 x2 x3 x4 x5 x6 x7 x8 x9 b).ra c.val i h - (argsOf x0 x1 x2 x3 x4 x5 x6 x7 x8 x9 b).ra c.val s h else ⊥) * (argsOf x0 x1 x2 x3 x4 x5 x6 x7 x8 x9 b).CB c.val i s) := by
  pointwise [val_main_v94, val_main_v93, val_main_v92, val_main_v91, val_main_v90]
  simp only [r73 x0 x1 x2 x3 x4 x5 x6 x7 x8 x9, r88 x0 x1 x2 x3 x4 x5 x6 x7 x8 x9, r89 x0 x1 x2 x3 x4 x5 x6 x7 x8 x9]

/-- x times dt, decayed to the chunk's end. -/
theorem r102 (b : Fin 2) (c : Fin 8) (i : Fin 256) (h : Fin 32) (p : Fin 64) :
    val_main_v102 (F := Ideal) x0 x1 x2 x3 x4 x5 x6 (ix5 b c i h p)
      = (argsOf x0 x1 x2 x3 x4 x5 x6 x7 x8 x9 b).X c.val i (col h p) * (argsOf x0 x1 x2 x3 x4 x5 x6 x7 x8 x9 b).dt c.val i h * Ideal.exp ((argsOf x0 x1 x2 x3 x4 x5 x6 x7 x8 x9 b).ra c.val 255 h - (argsOf x0 x1 x2 x3 x4 x5 x6 x7 x8 x9 b).ra c.val i h) := by
  rw [val_main_v102_apply]
  pointwise [val_main_v101, val_main_v100, val_main_v99, val_main_v98, val_main_v97, val_main_v96, val_main_v95]
  rw [r73 x0 x1 x2 x3 x4 x5 x6 x7 x8 x9, r78 x0 x1 x2 x3 x4 x5 x6 x7 x8 x9, r78 x0 x1 x2 x3 x4 x5 x6 x7 x8 x9]

/-- What a chunk adds to the state. -/
theorem r103 (b : Fin 2) (c : Fin 8) (n : Fin 128) (h : Fin 32) (p : Fin 64) :
    val_main_v103 (F := Ideal) x0 x1 x2 x3 x4 x5 x6 (ix5 b c h p n)
      = (argsOf x0 x1 x2 x3 x4 x5 x6 x7 x8 x9 b).rS c.val n (col h p) := by
  pointwise [val_main_v103]
  simp only [r102 x0 x1 x2 x3 x4 x5 x6 x7 x8 x9, r76 x0 x1 x2 x3 x4 x5 x6 x7 x8 x9]
  unfold Args.rS
  simp only [hd_col]

/-- The same after an empty first chunk. -/
theorem r106 (b : Fin 2) (k : Fin 9) (n : Fin 128) (h : Fin 32) (p : Fin 64) :
    val_main_v106 (F := Ideal) x0 x1 x2 x3 x4 x5 x6 (ix5 b k h p n)
      = if k.val = 0 then 0 else (argsOf x0 x1 x2 x3 x4 x5 x6 x7 x8 x9 b).rS (k.val - 1) n (col h p) := by
  pointwise [val_main_v106, val_main_v105, val_main_cst_7]
  by_cases h0 : k.val = 0
  · rw [dif_pos (by omega), if_pos h0]
  · rw [dif_neg (by omega), if_neg h0]
    exact r103 x0 x1 x2 x3 x4 x5 x6 x7 x8 x9 b ⟨k.val - 1, by omega⟩ n h p

/-- The chunks' exponents after an empty first chunk. -/
theorem r109 (b : Fin 2) (k : Fin 9) (h : Fin 32) :
    val_main_v109 (F := Ideal) x0 x1 x2 x5 x6 (ix3 b h k)
      = if k.val = 0 then 0 else (argsOf x0 x1 x2 x3 x4 x5 x6 x7 x8 x9 b).ra (k.val - 1) 255 h := by
  pointwise [val_main_v109, val_main_v108, val_main_v107, val_main_c_8, val_main_call6_v0]
  by_cases h0 : k.val = 0
  · rw [dif_neg (by omega), if_pos h0]
    exact sitofp_zero
  · rw [dif_pos ⟨by omega, by omega⟩, if_neg h0]
    exact r78 x0 x1 x2 x3 x4 x5 x6 x7 x8 x9 b ⟨k.val - 1, by omega⟩ 255 h

/-- Their running sum. -/
theorem r110 (b : Fin 2) (k : Fin 9) (h : Fin 32) :
    val_main_v110 (F := Ideal) x0 x1 x2 x5 x6 (ix3 b h k)
      = (argsOf x0 x1 x2 x3 x4 x5 x6 x7 x8 x9 b).rcs k h := by
  unfold val_main_v110
  refine (cumsum3 2 32 9 8 rfl _ _ (fun _ => ?_) _ _ b h k).trans ?_
  · pointwise [val_main_call7_call0_v0, val_main_call7_call0_cst]
  · refine Finset.sum_congr rfl fun q _ => ?_
    rw [r109 x0 x1 x2 x3 x4 x5 x6 x7 x8 x9]

/-- The decay between two chunks. -/
theorem r119 (b : Fin 2) (c k : Fin 9) (h : Fin 32) :
    val_main_v119 (F := Ideal) x0 x1 x2 x5 x6 (ix4 b h c k)
      = Ideal.exp (if k ≤ c then (argsOf x0 x1 x2 x3 x4 x5 x6 x7 x8 x9 b).rcs c h - (argsOf x0 x1 x2 x3 x4 x5 x6 x7 x8 x9 b).rcs k h else ⊥) := by
  pointwise [val_main_v119, val_main_v118, val_main_v117, val_main_v116, val_main_v115, val_main_v114, val_main_v113, val_main_v112, val_main_v111, val_main_c_9, val_main_cst_10, val_main_call8_v0, val_main_call8_v1, val_main_call8_v2, val_main_call8_v3, val_main_call8_v4, val_main_call8_v5, val_main_call8_c, val_main_call8_c_0, val_main_call9_v0, val_main_call9_v1, val_main_call9_v2]
  rw [sel_tril _ _ (by omega) (by omega), neg_inf, r110 x0 x1 x2 x3 x4 x5 x6 x7 x8 x9, r110 x0 x1 x2 x3 x4 x5 x6 x7 x8 x9]
  rfl

/-- The state entering a chunk. -/
theorem r122 (b : Fin 2) (c : Fin 8) (n : Fin 128) (h : Fin 32) (p : Fin 64) :
    val_main_v122 (F := Ideal) x0 x1 x2 x3 x4 x5 x6 (ix5 b c h p n)
      = (argsOf x0 x1 x2 x3 x4 x5 x6 x7 x8 x9 b).rSt c.castSucc n (col h p) := by
  pointwise [val_main_v122, val_main_v121, val_main_v120]
  simp only [r106 x0 x1 x2 x3 x4 x5 x6 x7 x8 x9, r119 x0 x1 x2 x3 x4 x5 x6 x7 x8 x9]
  unfold Args.rSt
  simp only [hd_col]
  rfl

/-- The chunk output without the skip. -/
theorem r129 (b : Fin 2) (c : Fin 8) (i : Fin 256) (h : Fin 32) (p : Fin 64) :
    val_main_v129 (F := Ideal) x0 x1 x2 x3 x4 x5 x6 (ix5 b c i h p)
      = (∑ s, (argsOf x0 x1 x2 x3 x4 x5 x6 x7 x8 x9 b).X c.val s (col h p) * (argsOf x0 x1 x2 x3 x4 x5 x6 x7 x8 x9 b).dt c.val s h * (Ideal.exp (if s ≤ i then (argsOf x0 x1 x2 x3 x4 x5 x6 x7 x8 x9 b).ra c.val i h - (argsOf x0 x1 x2 x3 x4 x5 x6 x7 x8 x9 b).ra c.val s h else ⊥) * (argsOf x0 x1 x2 x3 x4 x5 x6 x7 x8 x9 b).CB c.val i s)) + (∑ n, (argsOf x0 x1 x2 x3 x4 x5 x6 x7 x8 x9 b).C c.val i n * (argsOf x0 x1 x2 x3 x4 x5 x6 x7 x8 x9 b).rSt c.castSucc n (col h p)) * Ideal.exp ((argsOf x0 x1 x2 x3 x4 x5 x6 x7 x8 x9 b).ra c.val i h) := by
  rw [val_main_v129_apply, val_main_v128_apply, r94 x0 x1 x2 x3 x4 x5 x6 x7 x8 x9]
  pointwise [val_main_v127, val_main_v126, val_main_v125, val_main_v124, val_main_v123]
  simp only [r77 x0 x1 x2 x3 x4 x5 x6 x7 x8 x9, r122 x0 x1 x2 x3 x4 x5 x6 x7 x8 x9, r78 x0 x1 x2 x3 x4 x5 x6 x7 x8 x9]

/-- The chunk output. -/
theorem r134 (b : Fin 2) (c : Fin 8) (i : Fin 256) (h : Fin 32) (p : Fin 64) :
    val_main_v134 (F := Ideal) x0 x1 x2 x3 x4 x5 x6 x7 (ix4 b (gr c.val i) h p)
      = (argsOf x0 x1 x2 x3 x4 x5 x6 x7 x8 x9 b).rO c i (col h p) := by
  rw [val_main_v134_apply, val_main_v133_apply]
  pointwise [val_main_v132, val_main_v131, val_main_v130, val_main_v66, val_main_v57]
  rw [show (⟨(gr c.val i).val / 256, by omega⟩ : Fin 8) = c from Fin.ext (by show (256 * c.val + i.val) % 2048 / 256 = c.val; omega),
    show (⟨(gr c.val i).val % 256, by omega⟩ : Fin 256) = i from Fin.ext (by show (256 * c.val + i.val) % 2048 % 256 = i.val; omega),
    r129 x0 x1 x2 x3 x4 x5 x6 x7 x8 x9, r56 x0 x1 x2 x3 x4 x5 x6 x7 x8 x9]
  unfold Args.rO
  simp only [hd_col]
  rfl

/-- The chunk output, by columns. -/
theorem r135 (b : Fin 2) (c : Fin 8) (i : Fin 256) (j : Fin 2048) :
    val_main_v135 (F := Ideal) x0 x1 x2 x3 x4 x5 x6 x7 (ix3 b (gr c.val i) j)
      = (argsOf x0 x1 x2 x3 x4 x5 x6 x7 x8 x9 b).rO c i j := by
  pointwise [val_main_v135]
  rw [r134 x0 x1 x2 x3 x4 x5 x6 x7 x8 x9]
  exact congrArg ((argsOf x0 x1 x2 x3 x4 x5 x6 x7 x8 x9 b).rO c i) (Fin.ext (by show j.val / 64 * 64 + j.val % 64 = j.val; omega))

/-- The gated output. -/
theorem r143 (b : Fin 2) (c : Fin 8) (i : Fin 256) (j : Fin 2048) :
    val_main_v143 (F := Ideal) x0 x1 x2 x3 x4 x5 x6 x7 (ix3 b (gr c.val i) j)
      = (argsOf x0 x1 x2 x3 x4 x5 x6 x7 x8 x9 b).rO c i j * silu ((argsOf x0 x1 x2 x3 x4 x5 x6 x7 x8 x9 b).Z c.val i j) := by
  rw [val_main_v143_apply, r135 x0 x1 x2 x3 x4 x5 x6 x7 x8 x9]
  pointwise [val_main_v142, val_main_v141, val_main_v140, val_main_v139, val_main_v138, val_main_v137, val_main_v136, val_main_v14, val_main_cst_11, val_main_cst_12]
  rw [r13 x0 x1 x2 x3 x4 x5 x6 x7 x8 x9]
  unfold silu
  rw [zero_sub]
  rfl

/-- The reciprocal root of a gated row's mean square. -/
theorem r152 (b : Fin 2) (c : Fin 8) (i : Fin 256) (j : Fin 2048) :
    val_main_v152 (F := Ideal) x0 x1 x2 x3 x4 x5 x6 x7 (ix3 b (gr c.val i) j)
      = Ideal.rsqrt (Ideal.div (∑ k, ((argsOf x0 x1 x2 x3 x4 x5 x6 x7 x8 x9 b).rO c i k * silu ((argsOf x0 x1 x2 x3 x4 x5 x6 x7 x8 x9 b).Z c.val i k)) * ((argsOf x0 x1 x2 x3 x4 x5 x6 x7 x8 x9 b).rO c i k * silu ((argsOf x0 x1 x2 x3 x4 x5 x6 x7 x8 x9 b).Z c.val i k))) w2048 + eps) := by
  have e : ∀ k : Fin 2048, val_main_v144 (F := Ideal) x0 x1 x2 x3 x4 x5 x6 x7 (ix3 b (gr c.val i) k) = ((argsOf x0 x1 x2 x3 x4 x5 x6 x7 x8 x9 b).rO c i k * silu ((argsOf x0 x1 x2 x3 x4 x5 x6 x7 x8 x9 b).Z c.val i k)) * ((argsOf x0 x1 x2 x3 x4 x5 x6 x7 x8 x9 b).rO c i k * silu ((argsOf x0 x1 x2 x3 x4 x5 x6 x7 x8 x9 b).Z c.val i k)) := fun k =>
    (val_main_v144_apply _ _ _ _ _ _ _ _ _).trans (congrArg (fun z : EReal => z * z) (r143 x0 x1 x2 x3 x4 x5 x6 x7 x8 x9 b c i k))
  rw [val_main_v152_apply, val_main_v151_apply, val_main_v150_apply, val_main_v148_apply, val_main_v146_apply, val_main_v145_apply]
  have ei : ∀ k : Fin 2048, idx_main_v145 (idx_main_v146 (idx_main_v152 (ix3 b (gr c.val i) j))) k = ix3 b (gr c.val i) k := fun k => (eq_ix3 _).trans rfl
  rw [Finset.sum_congr rfl fun k _ => (congrArg (val_main_v144 (F := Ideal) x0 x1 x2 x3 x4 x5 x6 x7) (ei k)).trans (e k)]
  show Ideal.rsqrt (Ideal.div (Ideal.ofBits FTy.f32 0#32 + _) w2048 + eps) = _
  rw [show Ideal.ofBits FTy.f32 0#32 = 0 by simp [Ideal.ofBits, Ideal.ieee], zero_add]

/-- The gated, normed output. -/
theorem r156 (b : Fin 2) (c : Fin 8) (i : Fin 256) (j : Fin 2048) :
    val_main_v156 (F := Ideal) x0 x1 x2 x3 x4 x5 x6 x7 x8 (ix3 b (gr c.val i) j)
      = (argsOf x0 x1 x2 x3 x4 x5 x6 x7 x8 x9 b).rO c i j * silu ((argsOf x0 x1 x2 x3 x4 x5 x6 x7 x8 x9 b).Z c.val i j) * Ideal.rsqrt (Ideal.div (∑ k, ((argsOf x0 x1 x2 x3 x4 x5 x6 x7 x8 x9 b).rO c i k * silu ((argsOf x0 x1 x2 x3 x4 x5 x6 x7 x8 x9 b).Z c.val i k)) * ((argsOf x0 x1 x2 x3 x4 x5 x6 x7 x8 x9 b).rO c i k * silu ((argsOf x0 x1 x2 x3 x4 x5 x6 x7 x8 x9 b).Z c.val i k))) w2048 + eps) * (argsOf x0 x1 x2 x3 x4 x5 x6 x7 x8 x9 b).gw j := by
  rw [val_main_v156_apply, val_main_v153_apply, r143 x0 x1 x2 x3 x4 x5 x6 x7 x8 x9, r152 x0 x1 x2 x3 x4 x5 x6 x7 x8 x9]
  pointwise [val_main_v155, val_main_v154]
  rfl

/-- The result. -/
theorem r158 (b : Fin 2) (c : Fin 8) (i : Fin 256) (e : Fin 1024) :
    val_main_v158 (F := Ideal) x0 x1 x2 x3 x4 x5 x6 x7 x8 x9 (ix3 b (gr c.val i) e)
      = (argsOf x0 x1 x2 x3 x4 x5 x6 x7 x8 x9 b).rOut c i e := by
  rw [val_main_v158_apply, val_main_v157_apply]
  have el : ∀ k : Fin 2048, lidx_main_v157 (ix3 b (gr c.val i) e) k = ix3 b (gr c.val i) k := fun k => (eq_ix3 _).trans rfl
  have er : ∀ k : Fin 2048, ridx_main_v157 (ix3 b (gr c.val i) e) k = ix2 e k := fun k => (eq_ix2 _).trans rfl
  have h : ∀ k : Fin 2048, val_main_v156 (F := Ideal) x0 x1 x2 x3 x4 x5 x6 x7 x8 (lidx_main_v157 (ix3 b (gr c.val i) e) k) * x9 (ridx_main_v157 (ix3 b (gr c.val i) e) k)
      = (argsOf x0 x1 x2 x3 x4 x5 x6 x7 x8 x9 b).rO c i k * silu ((argsOf x0 x1 x2 x3 x4 x5 x6 x7 x8 x9 b).Z c.val i k) * Ideal.rsqrt (Ideal.div (∑ k, ((argsOf x0 x1 x2 x3 x4 x5 x6 x7 x8 x9 b).rO c i k * silu ((argsOf x0 x1 x2 x3 x4 x5 x6 x7 x8 x9 b).Z c.val i k)) * ((argsOf x0 x1 x2 x3 x4 x5 x6 x7 x8 x9 b).rO c i k * silu ((argsOf x0 x1 x2 x3 x4 x5 x6 x7 x8 x9 b).Z c.val i k))) w2048 + eps) * (argsOf x0 x1 x2 x3 x4 x5 x6 x7 x8 x9 b).gw k * x9 (ix2 e k) := fun k => by rw [el, er, r156 x0 x1 x2 x3 x4 x5 x6 x7 x8 x9]
  rw [Finset.sum_congr rfl fun k _ => h k]
  rfl

end Cert.ReferenceIdeal.Hand
-- ==== Proof.Ext.lean ====
/-
  Extended reals: which values are real, sums with an infinite term, and pairs that are equal or both infinite.
-/
module

public import proofs.«01_k».proof.Proof.Spec

@[expose] public section
noncomputable section
namespace Cert.Spec
open Idealize.ShloMosaic

/-- The value is a real number. -/
def IsR (a : EReal) : Prop := ∃ r : ℝ, a = r
/-- The value is infinite. -/
def Inf (a : EReal) : Prop := a = ⊤ ∨ a = ⊥
/-- The two values are equal, or both are infinite. -/
def Sim (a b : EReal) : Prop := a = b ∨ (Inf a ∧ Inf b)

/-- A value is real or infinite. -/
theorem isR_or_inf (a : EReal) : IsR a ∨ Inf a := by
  induction a with
  | bot => exact Or.inr (Or.inr rfl)
  | coe r => exact Or.inl ⟨r, rfl⟩
  | top => exact Or.inr (Or.inl rfl)

/-- The sum of two real numbers is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two real numbers is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- Zero is real. -/
theorem IsR.zero : IsR 0 := ⟨0, rfl⟩

/-- A sum of real numbers is real. -/
theorem IsR.sum {ι : Type} (s : Finset ι) (f : ι → EReal) (h : ∀ i ∈ s, IsR (f i)) : IsR (∑ i ∈ s, f i) :=
  Finset.sum_induction f IsR (fun _ _ => IsR.add) IsR.zero h

/-- A real number times its logistic is real. -/
theorem IsR.silu {a : EReal} (ha : IsR a) : IsR (silu a) := by
  obtain ⟨x, rfl⟩ := ha
  unfold Cert.Spec.silu
  refine IsR.mul ⟨x, rfl⟩ ?_
  have h : (1 : EReal) + Ideal.exp (0 - (x : EReal)) = ((1 + Real.exp (-x) : ℝ) : EReal) := by
    rw [zero_sub, ← EReal.coe_neg, Ideal.exp_coe, EReal.coe_add, EReal.coe_one]
  have h0 : (1 + Real.exp (-x) : ℝ) ≠ 0 := by positivity
  rw [h, Ideal.div_coe h0, one_mul]
  exact ⟨_, rfl⟩

/-- A sum of two values of which the first is infinite is infinite. -/
theorem Inf.add {a : EReal} (ha : Inf a) (b : EReal) : Inf (a + b) := by
  rcases ha with rfl | rfl
  · induction b with
    | bot => exact Or.inr rfl
    | coe r => exact Or.inl rfl
    | top => exact Or.inl rfl
  · exact Or.inr (EReal.bot_add b)

/-- An infinite value times a value other than zero is infinite. -/
theorem Inf.mul {a : EReal} (ha : Inf a) {b : EReal} (hb : b ≠ 0) : Inf (a * b) := by
  rcases lt_or_gt_of_ne hb with h | h
  · rcases ha with rfl | rfl
    · exact Or.inr (EReal.top_mul_of_neg h)
    · exact Or.inl (EReal.bot_mul_of_neg h)
  · rcases ha with rfl | rfl
    · exact Or.inl (EReal.top_mul_of_pos h)
    · exact Or.inr (EReal.bot_mul_of_pos h)

/-- A sum with an infinite term is infinite. -/
theorem Inf.sum {n : ℕ} (f : Fin n → EReal) (i : Fin n) (h : Inf (f i)) : Inf (∑ k, f k) := by
  rw [← Finset.add_sum_erase Finset.univ f (Finset.mem_univ i)]
  exact h.add _

/-- Equal or both infinite, two values stay so with the same value added. -/
theorem Sim.add_right {a b : EReal} (h : Sim a b) (c : EReal) : Sim (a + c) (b + c) := by
  rcases h with rfl | ⟨ha, hb⟩
  · exact Or.inl rfl
  · exact Or.inr ⟨ha.add c, hb.add c⟩

/-- Equal or both infinite, two values stay so times the same value. -/
theorem Sim.mul_right {a b : EReal} (h : Sim a b) (c : EReal) : Sim (a * c) (b * c) := by
  rcases h with rfl | ⟨ha, hb⟩
  · exact Or.inl rfl
  · by_cases hc : c = 0
    · left; rw [hc, mul_zero, mul_zero]
    · exact Or.inr ⟨ha.mul hc, hb.mul hc⟩

/-- Times a real number, a sum and the sum of the products are equal or both infinite. -/
theorem sim_distrib (u d : EReal) {x : EReal} (hx : IsR x) : Sim ((u + d) * x) (u * x + d * x) := by
  obtain ⟨r, rfl⟩ := hx
  by_cases hr : (r : EReal) = 0
  · left; rw [hr, mul_zero, mul_zero, mul_zero, add_zero]
  · rcases isR_or_inf u with ⟨a, rfl⟩ | hu
    · rcases isR_or_inf d with ⟨b, rfl⟩ | hd
      · left
        rw [← EReal.coe_add, ← EReal.coe_mul, ← EReal.coe_mul, ← EReal.coe_mul, ← EReal.coe_add, add_mul]
      · right
        rw [add_comm (a : EReal) d, add_comm ((a : EReal) * r)]
        exact ⟨(hd.add _).mul hr, (hd.mul hr).add _⟩
    · right
      exact ⟨(hu.add _).mul hr, (hu.mul hr).add _⟩

/-- A square is at least zero. -/
theorem sq_nonneg' (a : EReal) : 0 ≤ a * a := by
  rw [EReal.mul_nonneg_iff]
  rcases le_total 0 a with h | h
  · exact Or.inl ⟨h, h⟩
  · exact Or.inr ⟨h, h⟩

/-- The square of an infinite value is `⊤`. -/
theorem Inf.sq {a : EReal} (h : Inf a) : a * a = ⊤ := by
  rcases h with rfl | rfl <;> rfl

/-- A sum of squares of which one is of an infinite value is `⊤`. -/
theorem sum_sq_top {n : ℕ} (f : Fin n → EReal) (i : Fin n) (h : Inf (f i)) : ∑ k, f k * f k = ⊤ := by
  have h1 : f i * f i ≤ ∑ k, f k * f k :=
    Finset.single_le_sum (f := fun k => f k * f k) (fun k _ => sq_nonneg' (f k)) (Finset.mem_univ i)
  rw [h.sq] at h1
  exact top_le_iff.1 h1

/-- The first mean's divisor is 1024. -/
theorem w1024_eq : w1024 = ((1024 : ℝ) : EReal) := by
  unfold w1024
  simp [Ideal.ofBits, Ideal.ieee]
  norm_num
  rw [← EReal.coe_mul]
  norm_num

/-- The second mean's divisor is 2048. -/
theorem w2048_eq : w2048 = ((2048 : ℝ) : EReal) := by
  unfold w2048
  simp [Ideal.ofBits, Ideal.ieee]
  norm_num
  rw [← EReal.coe_mul]
  norm_num

/-- The norms' epsilon is a positive real number. -/
theorem eps_pos : ∃ r : ℝ, 0 < r ∧ eps = r := by
  unfold eps
  refine ⟨_, ?_, by simp [Ideal.ofBits, Ideal.ieee]; rfl⟩
  norm_num

/-- The mean square of a row that holds an infinite value has reciprocal root zero. -/
theorem rsqrt_inf {n : ℕ} (f : Fin n → EReal) (i : Fin n) (h : Inf (f i)) (w : ℝ) (hw : 0 < w) :
    Ideal.rsqrt (Ideal.div (∑ k, f k * f k) (w : EReal) + eps) = 0 := by
  obtain ⟨e, _, he⟩ := eps_pos
  rw [sum_sq_top f i h, Ideal.div_coe hw.ne', EReal.top_mul_coe_of_pos (by positivity), he, EReal.top_add_coe, Ideal.rsqrt_top]

/-- The mean square of a row of real numbers has a real reciprocal root. -/
theorem rsqrt_real {n : ℕ} (f : Fin n → EReal) (h : ∀ k, IsR (f k)) (w : ℝ) (hw : 0 < w) :
    IsR (Ideal.rsqrt (Ideal.div (∑ k, f k * f k) (w : EReal) + eps)) := by
  obtain ⟨e, he0, he⟩ := eps_pos
  obtain ⟨s, hs⟩ := IsR.sum Finset.univ (fun k => f k * f k) (fun k _ => (h k).mul (h k))
  have hs0 : 0 ≤ s := by
    have : (0 : EReal) ≤ (s : EReal) := by rw [← hs]; exact Finset.sum_nonneg fun k _ => sq_nonneg' (f k)
    exact EReal.coe_nonneg.1 this
  have hp : 0 < s * (1 / w) + e := by positivity
  rw [hs, Ideal.div_coe hw.ne', he, ← EReal.coe_mul, ← EReal.coe_add, Ideal.rsqrt_coe, if_neg (not_lt.2 hp.le), if_neg hp.ne']
  exact ⟨_, rfl⟩

/-- A sum times a real number at least zero is the sum of the products. -/
theorem sum_mul_real {ι : Type} (s : Finset ι) (f : ι → EReal) (r : ℝ) (hr : 0 ≤ r) : (∑ i ∈ s, f i) * (r : EReal) = ∑ i ∈ s, f i * r := by
  classical
  induction s using Finset.induction_on with
  | empty => rw [Finset.sum_empty, Finset.sum_empty, zero_mul]
  | insert a s ha ih =>
    rw [Finset.sum_insert ha, Finset.sum_insert ha, EReal.right_distrib_of_nonneg_of_ne_top (EReal.coe_nonneg.2 hr) (EReal.coe_ne_top r), ih]

/-- The sum of reals, as an extended real. -/
theorem coe_sum_range (f : ℕ → ℝ) (n : ℕ) : ∑ k ∈ Finset.range n, (f k : EReal) = ((∑ k ∈ Finset.range n, f k : ℝ) : EReal) := by
  induction n with
  | zero => rfl
  | succ n ih => rw [Finset.sum_range_succ, Finset.sum_range_succ, ih, EReal.coe_add]

/-- A sum over nine of which the first term is zero and those past `c` are zero. -/
theorem sum_nine (g : Fin 9 → EReal) (f : ℕ → EReal) (c : ℕ) (hc : c ≤ 8) (h0 : g 0 = 0)
    (h : ∀ k : Fin 8, g k.succ = if k.val + 1 ≤ c then f k.val else 0) : ∑ k, g k = ∑ k ∈ Finset.range c, f k := by
  rw [Fin.sum_univ_succ, h0, zero_add, Finset.sum_congr rfl fun k _ => h k,
    Fin.sum_univ_eq_sum_range (fun k => if k + 1 ≤ c then f k else 0) 8, ← Finset.sum_filter]
  refine Finset.sum_congr (Finset.ext fun k => ?_) fun _ _ => rfl
  rw [Finset.mem_filter, Finset.mem_range, Finset.mem_range]
  omega
end Cert.Spec
-- ==== Proof.Alg.lean ====
/-
  The kernel's row and the reference's row are equal, over the extended reals, when the weights that reach x and dt are real.
-/
module

public import proofs.«01_k».proof.Proof.Ext

@[expose] public section
noncomputable section
namespace Cert.Spec
open Idealize.ShloMosaic
namespace Args
variable (A : Args)

/-- The normed rows are real: a row with an infinite entry is scaled to zero. -/
theorem xn_real (h : A.Ok) (l : Fin 2048) (e : Fin 1024) : IsR (A.xn l e) := by
  unfold xn
  rw [w1024_eq]
  by_cases hx : ∀ k, IsR (A.x l k)
  · exact ((hx e).mul (rsqrt_real _ hx 1024 (by norm_num))).mul (h.nw e)
  · obtain ⟨k, hk⟩ := not_forall.1 hx
    rw [rsqrt_inf (A.x l) k ((isR_or_inf _).resolve_left hk) 1024 (by norm_num), mul_zero, zero_mul]
    exact IsR.zero

/-- A column of the in-projection whose weights are real is real. -/
theorem zx_real (h : A.Ok) (l : Fin 2048) (j : Fin 4384) (hj : ∀ e, IsR (A.wi j e)) : IsR (A.zx l j) :=
  IsR.sum _ _ fun e _ => (A.xn_real h l e).mul (hj e)

/-- A row of a column of x before the convolution is real. -/
theorem tap_real (h : A.Ok) (n : ℕ) (j : Fin 2048) : IsR (A.tap n ⟨j.val, by omega⟩) := by
  unfold tap
  split
  · exact IsR.zero
  · exact A.zx_real h _ _ (h.wx j)

/-- x is real. -/
theorem X_real (h : A.Ok) (c : ℕ) (i : Fin 256) (j : Fin 2048) : IsR (A.X c i j) := by
  refine IsR.silu ?_
  unfold cv
  have t := fun n k => (A.tap_real h n j).mul (h.cw j k)
  exact ((((t _ 0).add (t _ 1)).add (t _ 2)).add (t _ 3)).add (h.cb j)

/-- The logarithm of one is zero. -/
theorem log_one : Ideal.log 1 = 0 := by
  rw [← EReal.coe_one, Ideal.log_coe, if_neg (by norm_num), Real.log_one]
  rfl

/-- dt is at least zero. -/
theorem dt_nonneg (c : ℕ) (i : Fin 256) (h : Fin 32) : 0 ≤ A.dt c i h := by
  unfold dt
  refine add_nonneg (le_max_right _ _) ?_
  generalize 0 - max (A.dtr c i h) (-(A.dtr c i h)) = y
  induction y with
  | bot => simp [log_one]
  | coe r =>
    rw [Ideal.exp_coe, ← EReal.coe_one, ← EReal.coe_add, Ideal.log_coe, if_neg (by have := Real.exp_pos r; linarith)]
    exact EReal.coe_nonneg.2 (Real.log_nonneg (by have := Real.exp_pos r; linarith))
  | top =>
    rw [Ideal.exp_top, ← EReal.coe_one, EReal.coe_add_top, Ideal.log_top]
    exact le_top

/-- An exponential is at least zero. -/
theorem exp_nonneg (y : EReal) : 0 ≤ Ideal.exp y := by
  induction y with
  | bot => exact le_refl _
  | coe r => exact EReal.coe_nonneg.2 (Real.exp_pos r).le
  | top => exact le_top

/-- The decay's exponent is at most zero. -/
theorem dA_nonpos (c : ℕ) (i : Fin 256) (h : Fin 32) : A.dA c i h ≤ 0 := by
  unfold dA
  rw [zero_sub, mul_neg, EReal.neg_le, neg_zero]
  exact EReal.mul_nonneg (A.dt_nonneg c i h) (exp_nonneg _)

/-- dt of a real number is a positive real. -/
theorem softplus_real (r : ℝ) : ∃ s : ℝ, 0 < s ∧ max (r : EReal) 0 + Ideal.log (1 + Ideal.exp (0 - max (r : EReal) (-(r : EReal)))) = s := by
  have hp : 0 < Real.exp (-(max r (-r))) := Real.exp_pos _
  refine ⟨max r 0 + Real.log (1 + Real.exp (-(max r (-r)))), ?_, ?_⟩
  · have := Real.log_pos (show 1 < 1 + Real.exp (-(max r (-r))) by linarith)
    have := le_max_right r 0
    linarith
  · have e1 : max (r : EReal) 0 = ((max r 0 : ℝ) : EReal) := by rw [EReal.coe_strictMono.monotone.map_max]; rfl
    have e2 : max (r : EReal) (-(r : EReal)) = ((max r (-r) : ℝ) : EReal) := by rw [EReal.coe_strictMono.monotone.map_max, EReal.coe_neg]
    rw [e1, e2, zero_sub, ← EReal.coe_neg, Ideal.exp_coe, ← EReal.coe_one, ← EReal.coe_add, Ideal.log_coe, if_neg (by linarith), ← EReal.coe_add]

/-- A head's exponents are all real, or all minus infinity. -/
theorem dA_cases (ok : A.Ok) (h : Fin 32) : (∀ c i, IsR (A.dA c i h)) ∨ (∀ c i, A.dA c i h = ⊥) := by
  have hz : ∀ c i, ∃ r : ℝ, A.zx (gr c i) ⟨4352 + h.val, by omega⟩ = r := fun c i => A.zx_real ok _ _ (ok.wdt h)
  have hdt : (∀ c i, ∃ s : ℝ, 0 < s ∧ A.dt c i h = s) ∨ (∀ c i, A.dt c i h = ⊤) ∨ (∀ c i, A.dt c i h = 0) := by
    rcases isR_or_inf (A.dtb h) with ⟨b, hb⟩ | hb | hb
    · left
      intro c i
      obtain ⟨r, hr⟩ := hz c i
      unfold dt dtr
      rw [hr, hb, ← EReal.coe_add]
      exact softplus_real _
    · right; left
      intro c i
      obtain ⟨r, hr⟩ := hz c i
      unfold dt dtr
      rw [hr, hb, EReal.coe_add_top]
      simp [log_one]
    · right; right
      intro c i
      unfold dt dtr
      rw [hb, EReal.add_bot]
      simp [log_one]
  unfold dA
  rcases hdt with hd | hd | hd
  · rcases isR_or_inf (A.al h) with ⟨a, ha⟩ | ha | ha
    · left
      intro c i
      obtain ⟨s, _, hs⟩ := hd c i
      rw [hs, ha, Ideal.exp_coe, zero_sub, ← EReal.coe_neg]
      exact IsR.mul ⟨_, rfl⟩ ⟨_, rfl⟩
    · right
      intro c i
      obtain ⟨s, hs0, hs⟩ := hd c i
      rw [hs, ha, Ideal.exp_top, zero_sub, EReal.neg_top, EReal.coe_mul_bot_of_pos hs0]
    · left
      intro c i
      rw [ha, Ideal.exp_bot, sub_zero, mul_zero]
      exact IsR.zero
  · by_cases he : Ideal.exp (A.al h) = 0
    · left
      intro c i
      rw [he, sub_zero, mul_zero]
      exact IsR.zero
    · right
      intro c i
      rw [hd, zero_sub, mul_neg, EReal.top_mul_of_pos (lt_of_le_of_ne (exp_nonneg _) (Ne.symm he)), EReal.neg_top]
  · left
    intro c i
    rw [hd, zero_mul]
    exact IsR.zero

/-- A head's running sums are all real, or all minus infinity. -/
theorem ra_cases (ok : A.Ok) (h : Fin 32) : (∀ c i, IsR (A.ra c i h)) ∨ (∀ c i, A.ra c i h = ⊥) := by
  rcases A.dA_cases ok h with hd | hd
  · left
    intro c i
    refine IsR.sum _ _ fun s _ => ?_
    split
    · exact hd c s
    · exact IsR.zero
  · right
    intro c i
    unfold ra
    rw [← Finset.add_sum_erase Finset.univ _ (Finset.mem_univ i), if_pos (le_refl i), hd, EReal.bot_add]

/-- The kernel's running sum is the reference's. -/
theorem ka_eq (ok : A.Ok) (c : ℕ) (i : Fin 256) (h : Fin 32) : A.ka c i h = A.ra c i h := by
  show A.ra c i h + _ = _
  rcases A.dA_cases ok h with hd | hd
  · have h0 : (∑ s : Fin 256, if s ≤ i then A.dA c s h - A.dA c s h else 0) = 0 := by
      refine Finset.sum_eq_zero fun s _ => ?_
      obtain ⟨r, hr⟩ := hd c s
      split
      · rw [hr, ← EReal.coe_sub, sub_self]; rfl
      · rfl
    rw [h0, add_zero]
  · have hb : A.ra c i h = ⊥ := by
      unfold ra
      rw [← Finset.add_sum_erase Finset.univ _ (Finset.mem_univ i), if_pos (le_refl i), hd, EReal.bot_add]
    rw [hb, EReal.bot_add]

/-- The running sum does not grow along a chunk. -/
theorem ra_anti (c : ℕ) {s i : Fin 256} (hs : s ≤ i) (h : Fin 32) : A.ra c i h - A.ra c s h ≤ 0 := by
  rw [EReal.sub_nonpos]
  unfold ra
  refine Finset.sum_le_sum fun q _ => ?_
  by_cases h1 : q ≤ s
  · rw [if_pos h1, if_pos (h1.trans hs)]
  · rw [if_neg h1]
    split
    · exact A.dA_nonpos c q h
    · exact le_refl _

/-- The reference's term of the within-chunk sum. -/
def rT (c : ℕ) (i s : Fin 256) (j : Fin 2048) : EReal :=
  A.X c s j * A.dt c s (hd j) * (Ideal.exp (if s ≤ i then A.ra c i (hd j) - A.ra c s (hd j) else ⊥) * A.CB c i s)

/-- Off the diagonal the kernel's term is the reference's. -/
theorem kT_off (ok : A.Ok) (c : ℕ) {i s : Fin 256} (hs : i ≠ s) (j : Fin 2048) : A.kT c i s j = A.rT c i s j := by
  unfold kT rT cbm
  rw [A.ka_eq ok, A.ka_eq ok, if_neg hs, add_zero]
  by_cases h : s ≤ i
  · rw [if_pos h, if_pos h, min_eq_left (A.ra_anti c h _)]
    ac_rfl
  · rw [if_neg h, if_neg h, Ideal.exp_bot, mul_zero, zero_mul, zero_mul, zero_mul, mul_zero]

/-- In the block below the diagonal the kernel's term is the reference's. -/
theorem kL_eq (ok : A.Ok) (c : ℕ) {i s : Fin 256} (h : s ≤ i) (j : Fin 2048) : A.kL c i s j = A.rT c i s j := by
  unfold kL rT cbm
  rw [A.ka_eq ok, A.ka_eq ok, if_pos h, if_pos h]
  ac_rfl

/-- Above the diagonal the reference's term is zero. -/
theorem rT_above (c : ℕ) {i s : Fin 256} (h : ¬ s ≤ i) (j : Fin 2048) : A.rT c i s j = 0 := by
  unfold rT
  rw [if_neg h, Ideal.exp_bot, zero_mul, mul_zero]

/-- On the diagonal the kernel's term is the reference's and the skip. -/
theorem kT_diag (ok : A.Ok) (c : ℕ) (i : Fin 256) (j : Fin 2048) : Sim (A.kT c i i j) (A.rT c i i j + A.dd (hd j) * A.X c i j) := by
  unfold kT rT cbm
  rw [A.ka_eq ok, if_pos (le_refl i), if_pos (le_refl i), if_pos rfl, min_eq_left (A.ra_anti c (le_refl i) _)]
  have e : A.X c i j * A.dt c i (hd j) * (Ideal.exp (A.ra c i (hd j) - A.ra c i (hd j)) * A.CB c i i)
      = Ideal.exp (A.ra c i (hd j) - A.ra c i (hd j)) * A.CB c i i * A.dt c i (hd j) * A.X c i j := by ac_rfl
  rw [e]
  exact sim_distrib _ _ (A.X_real ok c i j)

/-- A sum over 256 in two halves. -/
theorem sum_halves (f : Fin 256 → EReal) : ∑ s, f s = (∑ s : Fin 128, f ⟨s.val, by omega⟩) + ∑ s : Fin 128, f ⟨128 + s.val, by omega⟩ :=
  Fin.sum_univ_add (a := 128) (b := 128) f

/-- The kernel's within-chunk output is the diagonal's term and the reference's other terms. -/
theorem kY_eq (ok : A.Ok) (c : ℕ) (i : Fin 256) (j : Fin 2048) :
    A.kY c i j = ∑ s, if i = s then A.kT c i i j else A.rT c i s j := by
  have off : ∀ s : Fin 256, A.kT c i s j = if i = s then A.kT c i i j else A.rT c i s j := fun s => by
    by_cases h : i = s
    · rw [if_pos h, ← h]
    · rw [if_neg h, A.kT_off ok c h]
  rw [sum_halves]
  unfold kY
  by_cases hi : i.val < 128
  · rw [if_pos hi]
    have h0 : (∑ s : Fin 128, if i = (⟨128 + s.val, by omega⟩ : Fin 256) then A.kT c i i j else A.rT c i ⟨128 + s.val, by omega⟩ j) = 0 := by
      refine Finset.sum_eq_zero fun s _ => ?_
      rw [if_neg (fun q => by have := congrArg Fin.val q; simp only at this; omega), A.rT_above c (fun q => by have := Fin.le_def.1 q; simp only at this; omega)]
    rw [h0, add_zero]
    exact Finset.sum_congr rfl fun s _ => off _
  · rw [if_neg hi]
    refine congrArg₂ (fun a b : EReal => a + b) (Finset.sum_congr rfl fun s _ => ?_) (Finset.sum_congr rfl fun s _ => off _)
    rw [if_neg (fun q => by have := congrArg Fin.val q; simp only at this; omega), A.kL_eq ok c (Fin.le_def.2 (by show s.val ≤ i.val; omega))]

/-- The within-chunk outputs agree up to infinities of either sign. -/
theorem kY_sim (ok : A.Ok) (c : ℕ) (i : Fin 256) (j : Fin 2048) : Sim (A.kY c i j) ((∑ s, A.rT c i s j) + A.dd (hd j) * A.X c i j) := by
  rw [A.kY_eq ok, ← Finset.add_sum_erase Finset.univ _ (Finset.mem_univ i), if_pos rfl,
    ← Finset.add_sum_erase Finset.univ (fun s => A.rT c i s j) (Finset.mem_univ i), add_right_comm]
  have e : (∑ s ∈ Finset.univ.erase i, if i = s then A.kT c i i j else A.rT c i s j) = ∑ s ∈ Finset.univ.erase i, A.rT c i s j :=
    Finset.sum_congr rfl fun s hs => if_neg (Finset.ne_of_mem_erase hs).symm
  rw [e]
  exact (A.kT_diag ok c i j).add_right _

/-- What the kernel adds to the state is what the reference adds. -/
theorem kS_eq (ok : A.Ok) (c : ℕ) (n : Fin 128) (j : Fin 2048) :
    (∑ i, A.B c i n * (A.X c i j * (A.dt c i (hd j) * Ideal.exp (A.ka c 255 (hd j) - A.ka c i (hd j))))) = A.rS c n j := by
  refine Finset.sum_congr rfl fun i _ => ?_
  rw [A.ka_eq ok, A.ka_eq ok]
  ac_rfl

/-- With all decays zero, a chunk adds nothing. -/
theorem rS_bot (c : ℕ) (n : Fin 128) (j : Fin 2048) (hb : ∀ c i, A.ra c i (hd j) = ⊥) : A.rS c n j = 0 := by
  refine Finset.sum_eq_zero fun i _ => ?_
  rw [hb, hb, EReal.bot_sub, Ideal.exp_bot, mul_zero, zero_mul]

/-- The kernel's state, with real decays: what each chunk added, decayed since. -/
theorem kst_real (ok : A.Ok) (a : ℕ → ℝ) (j : Fin 2048) (ha : ∀ c, A.ra c 255 (hd j) = a c) (c : ℕ) (n : Fin 128) :
    A.kst c n j = ∑ k ∈ Finset.range c,
      A.rS k n j * ((Real.exp ((∑ q ∈ Finset.range c, a q) - ∑ q ∈ Finset.range (k + 1), a q) : ℝ) : EReal) := by
  induction c with
  | zero => rfl
  | succ c ih =>
    rw [kst, A.kS_eq ok, A.ka_eq ok, ih, ha, Ideal.exp_coe, sum_mul_real _ _ _ (Real.exp_pos _).le, Finset.sum_range_succ]
    refine congrArg₂ (fun a b : EReal => a + b) (Finset.sum_congr rfl fun k _ => ?_) ?_
    · rw [mul_assoc, ← EReal.coe_mul, ← Real.exp_add, Finset.sum_range_succ a c]
      congr 3
      ring
    · rw [sub_self, Real.exp_zero, EReal.coe_one, mul_one]

/-- The running sum over the chunks, with real decays. -/
theorem rcs_real (a : ℕ → ℝ) (h : Fin 32) (ha : ∀ c, A.ra c 255 h = a c) (k : Fin 9) :
    A.rcs k h = ((∑ q ∈ Finset.range k.val, a q : ℝ) : EReal) := by
  unfold rcs
  rw [← coe_sum_range]
  refine sum_nine _ _ k.val (by omega) ?_ fun q => ?_
  · rw [if_pos (Fin.zero_le k)]; rfl
  · by_cases hq : q.val + 1 ≤ k.val
    · rw [if_pos (Fin.le_def.2 hq), if_pos hq, if_neg (by rw [Fin.val_succ]; omega), ← ha]
      rfl
    · rw [if_neg (fun g => hq (Fin.le_def.1 g)), if_neg hq]

/-- The state entering a chunk is the reference's. -/
theorem kst_eq (ok : A.Ok) (c : Fin 8) (n : Fin 128) (j : Fin 2048) : A.kst c.val n j = A.rSt c.castSucc n j := by
  rcases A.ra_cases ok (hd j) with hr | hb
  · choose a ha using fun c => hr c 255
    rw [A.kst_real ok a j ha]
    unfold rSt
    refine (sum_nine _ _ c.val (by omega) ?_ fun k => ?_).symm
    · rw [if_pos (show ((0 : Fin 9) : ℕ) = 0 from rfl), zero_mul]
    · rw [if_neg (by rw [Fin.val_succ]; omega)]
      by_cases hk : k.val + 1 ≤ c.val
      · rw [if_pos (Fin.le_def.2 hk), if_pos hk, A.rcs_real a (hd j) ha, A.rcs_real a (hd j) ha, ← EReal.coe_sub, Ideal.exp_coe]
        rfl
      · rw [if_neg (fun g => hk (Fin.le_def.1 g)), if_neg hk, Ideal.exp_bot, mul_zero]
  · have h1 : ∀ c, A.kst c n j = 0 := fun c => by
      induction c with
      | zero => rfl
      | succ c ih => rw [kst, A.kS_eq ok, A.rS_bot c n j hb, ih, zero_mul, add_zero]
    rw [h1]
    refine (Finset.sum_eq_zero fun k _ => ?_).symm
    rw [A.rS_bot _ n j hb, ite_self, zero_mul]

/-- The chunk outputs agree up to infinities of either sign. -/
theorem kO_sim (ok : A.Ok) (c : Fin 8) (i : Fin 256) (j : Fin 2048) : Sim (A.kO c.val i j) (A.rO c i j) := by
  have e : A.rO c i j = ((∑ s, A.rT c.val i s j) + A.dd (hd j) * A.X c.val i j)
      + (∑ n, A.C c.val i n * A.rSt c.castSucc n j) * Ideal.exp (A.ra c.val i (hd j)) := add_right_comm _ _ _
  rw [e]
  unfold kO
  rw [A.ka_eq ok, Finset.sum_congr rfl fun n _ => congrArg (fun z : EReal => A.C c.val i n * z) (A.kst_eq ok c n j)]
  exact (A.kY_sim ok c.val i j).add_right _

/-- Rows that agree up to infinities of either sign have the same normed projection: one infinity scales the whole row to zero. -/
theorem tail_sim (c : ℕ) (i : Fin 256) (g g' : Fin 2048 → EReal) (h : ∀ j, Sim (g j) (g' j)) (e : Fin 1024) : A.tail c i g e = A.tail c i g' e := by
  by_cases he : ∀ j, g j = g' j
  · rw [funext he]
  · obtain ⟨k, hk⟩ := not_forall.1 he
    obtain ⟨h1, h2⟩ := (h k).resolve_left hk
    unfold tail
    rw [w2048_eq, rsqrt_inf g k h1 2048 (by norm_num), rsqrt_inf g' k h2 2048 (by norm_num)]
    simp only [mul_zero, zero_mul]

/-- The row the kernel writes is the row the reference writes. -/
theorem kOut_eq (ok : A.Ok) (c : Fin 8) (i : Fin 256) (e : Fin 1024) : A.kOut c.val i e = A.rOut c i e :=
  A.tail_sim c.val i _ _ (fun j => (A.kO_sim ok c i j).mul_right _) e
end Args
end Cert.Spec
-- ==== Proof.Pre.lean ====
/-
  What the precondition says: the weights that reach x and dt are real numbers.
-/
module

public import proofs.«01_k».proof.Pre_weights_finite
public import proofs.«01_k».proof.Proof.Arr
public import proofs.«01_k».proof.Proof.Ext

@[expose] public section
noncomputable section
namespace Cert.Spec
open Idealize.ShloMosaic

/-- The precondition's operations fit their shapes. -/
theorem preFacts : Cert.Pre_weights_finite.Facts := by
  constructor <;> decide

/-- A magnitude below infinity is a real number's. -/
theorem real_of_lt (v : EReal) (h : FloatOps.cmpf (F := Ideal) (φ := .f32) .olt (FloatOps.absf (F := Ideal) (φ := .f32) v) (Ideal.ofBits FTy.f32 2139095040#32) = 1#1) :
    IsR v := by
  have hi : Ideal.ofBits FTy.f32 2139095040#32 = ⊤ := by simp [Ideal.ofBits, Ideal.ieee]
  rw [hi] at h
  induction v with
  | bot =>
    exfalso
    revert h
    show ¬ ((if max (⊥ : EReal) (-⊥) < ⊤ then 1#1 else 0#1) = 1#1)
    simp
  | coe r => exact ⟨r, rfl⟩
  | top =>
    exfalso
    revert h
    show ¬ ((if max (⊤ : EReal) (-⊤) < ⊤ then 1#1 else 0#1) = 1#1)
    simp

variable (x0 : (⟨3, ![2, 2048, 1024]⟩ : Shape).Idx → EReal) (x1 : (⟨1, ![1024]⟩ : Shape).Idx → EReal) (x2 : (⟨2, ![4384, 1024]⟩ : Shape).Idx → EReal)
    (x3 : (⟨2, ![2304, 4]⟩ : Shape).Idx → EReal) (x4 : (⟨1, ![2304]⟩ : Shape).Idx → EReal) (x5 x6 x7 : (⟨1, ![32]⟩ : Shape).Idx → EReal)
    (x8 : (⟨1, ![2048]⟩ : Shape).Idx → EReal) (x9 : (⟨2, ![1024, 2048]⟩ : Shape).Idx → EReal)

/-- Under the precondition the weights the argument asks for are real. -/
theorem ok_of_pre [Cert.Pre_weights_finite.Facts] (b : Fin 2)
    (h : (Cert.Pre_weights_finite.fn (F := Ideal) x0 x1 x2 x3 x4 x5 x6 x7 x8 x9).1 = (fun _ => 1#1)
      ∧ (Cert.Pre_weights_finite.fn (F := Ideal) x0 x1 x2 x3 x4 x5 x6 x7 x8 x9).2.1 = (fun _ => 1#1)
      ∧ (Cert.Pre_weights_finite.fn (F := Ideal) x0 x1 x2 x3 x4 x5 x6 x7 x8 x9).2.2.1 = (fun _ => 1#1)
      ∧ (Cert.Pre_weights_finite.fn (F := Ideal) x0 x1 x2 x3 x4 x5 x6 x7 x8 x9).2.2.2.1 = (fun _ => 1#1)
      ∧ (Cert.Pre_weights_finite.fn (F := Ideal) x0 x1 x2 x3 x4 x5 x6 x7 x8 x9).2.2.2.2 = (fun _ => 1#1)) :
    (argsOf x0 x1 x2 x3 x4 x5 x6 x7 x8 x9 b).Ok where
  nw e := by
    refine real_of_lt _ (Eq.trans ?_ (congrFun h.1 (ix1 e)))
    pointwise [Cert.Pre_weights_finite.fn]
    rfl
  wx j e := by
    refine real_of_lt _ (Eq.trans ?_ (congrFun h.2.1 (ix2 j e)))
    pointwise [Cert.Pre_weights_finite.fn]
    rfl
  wdt k e := by
    refine real_of_lt _ (Eq.trans ?_ (congrFun h.2.2.1 (ix2 k e)))
    pointwise [Cert.Pre_weights_finite.fn]
    rfl
  cw j k := by
    refine real_of_lt _ (Eq.trans ?_ (congrFun h.2.2.2.1 (ix2 j k)))
    pointwise [Cert.Pre_weights_finite.fn]
    rfl
  cb j := by
    refine real_of_lt _ (Eq.trans ?_ (congrFun h.2.2.2.2 (ix1 j)))
    pointwise [Cert.Pre_weights_finite.fn]
    rfl
end Cert.Spec
-- ==== Proof.lean ====
/-
  The proof of the certificate's claim: the frames, that nothing was replaced, and that the kernel and the reference, read
  over the extended reals, write the same array wherever the weights that reach x and dt are finite.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KPoints
public import proofs.«01_k».proof.Proof.RRead
public import proofs.«01_k».proof.Proof.Alg
public import proofs.«01_k».proof.Proof.Pre
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.ShloMosaic.StableHlo Idealize.SL.Sem

/-- The reference runs, keeps its arguments and leaves no signal. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments, with the weights that reach x and dt finite, the reference's array is the kernel's. -/
theorem value_eq (m : (ℓ : Loc Cert.KernelIdeal.nD Cert.KernelIdeal.τ Cert.KernelIdeal.sig) → Buf (Elt Ideal) ℓ) (d : Dev Cert.KernelIdeal.nD)
    (ok : ∀ b, (Cert.KernelIdeal.Hand.kArgs m d b).Ok) :
    Cert.ReferenceIdeal.Read.val_main_v158 (F := Ideal)
        (m ((d.tc : Thread Cert.KernelIdeal.nD Cert.KernelIdeal.τ).loc Cert.KernelIdeal.main_arg0)) (m ((d.tc : Thread Cert.KernelIdeal.nD Cert.KernelIdeal.τ).loc Cert.KernelIdeal.main_arg1))
        (m ((d.tc : Thread Cert.KernelIdeal.nD Cert.KernelIdeal.τ).loc Cert.KernelIdeal.main_arg2)) (m ((d.tc : Thread Cert.KernelIdeal.nD Cert.KernelIdeal.τ).loc Cert.KernelIdeal.main_arg3))
        (m ((d.tc : Thread Cert.KernelIdeal.nD Cert.KernelIdeal.τ).loc Cert.KernelIdeal.main_arg4)) (m ((d.tc : Thread Cert.KernelIdeal.nD Cert.KernelIdeal.τ).loc Cert.KernelIdeal.main_arg5))
        (m ((d.tc : Thread Cert.KernelIdeal.nD Cert.KernelIdeal.τ).loc Cert.KernelIdeal.main_arg6)) (m ((d.tc : Thread Cert.KernelIdeal.nD Cert.KernelIdeal.τ).loc Cert.KernelIdeal.main_arg7))
        (m ((d.tc : Thread Cert.KernelIdeal.nD Cert.KernelIdeal.τ).loc Cert.KernelIdeal.main_arg8)) (m ((d.tc : Thread Cert.KernelIdeal.nD Cert.KernelIdeal.τ).loc Cert.KernelIdeal.main_arg9))
      = Cert.KernelIdeal.Value.G12 (F := Ideal) m d := by
  funext x
  rw [eq_ix3 x]
  suffices key : ∀ (b : Fin 2) (l : Fin 2048) (e : Fin 1024), Cert.ReferenceIdeal.Read.val_main_v158 (F := Ideal) _ _ _ _ _ _ _ _ _ _ (ix3 b l e)
      = Cert.KernelIdeal.Value.G12 (F := Ideal) m d (ix3 b l e) from key (x 0) (x 1) (x 2)
  intro b l e
  obtain ⟨c, i, rfl⟩ : ∃ (c : Fin 8) (i : Fin 256), l = ⟨256 * c.val + i.val, by omega⟩ :=
    ⟨⟨l.val / 256, by omega⟩, ⟨l.val % 256, by omega⟩, Fin.ext (by show l.val = 256 * (l.val / 256) + l.val % 256; omega)⟩
  refine Eq.trans ?_ ((Cert.KernelIdeal.Hand.out_at m d b c i e).trans ((Cert.KernelIdeal.Hand.kArgs m d b).kOut_eq (ok b) c i e)).symm
  rw [show (⟨256 * c.val + i.val, by omega⟩ : Fin 2048) = Cert.Spec.gr c.val i from
    Fin.ext (by show 256 * c.val + i.val = (256 * c.val + i.val) % 2048; omega)]
  exact Cert.ReferenceIdeal.Hand.r158 _ _ _ _ _ _ _ _ _ _ b c i e

/-- The value claim. -/
theorem algebraic (hp : Cert.Pre_weights_finite.Facts) : algebraic_KernelIdeal_ReferenceIdeal_pre_weights_finite (hPre_weights_finite := hp) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Read.val_main_v158_eq (launchContents m' c))).trans ?_
  simp only [launchContents_devRef, hagree c]
  exact value_eq m c (fun b => Cert.Spec.ok_of_pre _ _ _ _ _ _ _ _ _ _ b (hpre c))

/-- The whole certificate: the frames, the preservation and the value claim. -/
theorem claim : Cert.Claim := ⟨Cert.Kernel.Gen.facts, Cert.KernelIdeal.Gen.facts, Cert.ReferenceIdeal.Gen.facts, Cert.Spec.preFacts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), algebraic _⟩

end Cert.Proof

end
